-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v238)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v238) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v811) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x512x512 : Shape := ⟨4, ![64, 3, 512, 512]⟩
abbrev S64x68x2 : Shape := ⟨3, ![64, 68, 2]⟩
abbrev S64x6x2 : Shape := ⟨3, ![64, 6, 2]⟩
abbrev S64x6x1 : Shape := ⟨3, ![64, 6, 1]⟩
abbrev S64x6 : Shape := ⟨2, ![64, 6]⟩
abbrev S_ : Shape := ⟨0, ![]⟩
abbrev S64 : Shape := ⟨1, ![64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S64x2x32 : Shape := ⟨3, ![64, 2, 32]⟩
abbrev S64x32x1 : Shape := ⟨3, ![64, 32, 1]⟩
abbrev S64x32x2 : Shape := ⟨3, ![64, 32, 2]⟩
abbrev S64x1x1 : Shape := ⟨3, ![64, 1, 1]⟩
abbrev S1x3x512x512 : Shape := ⟨4, ![1, 3, 512, 512]⟩
abbrev S1x2x32 : Shape := ⟨3, ![1, 2, 32]⟩
abbrev S1x32x2 : Shape := ⟨3, ![1, 32, 2]⟩
abbrev S1x1x1 : Shape := ⟨3, ![1, 1, 1]⟩
abbrev S1x32x1 : Shape := ⟨3, ![1, 32, 1]⟩
abbrev S32x1 : Shape := ⟨2, ![32, 1]⟩
abbrev S32x512 : Shape := ⟨2, ![32, 512]⟩
abbrev S1x1x32 : Shape := ⟨3, ![1, 1, 32]⟩
abbrev S512x32 : Shape := ⟨2, ![512, 32]⟩
abbrev S32x32 : Shape := ⟨2, ![32, 32]⟩
abbrev S1x1x512x512 : Shape := ⟨4, ![1, 1, 512, 512]⟩
abbrev S512x512 : Shape := ⟨2, ![512, 512]⟩
abbrev S1x32x32 : Shape := ⟨3, ![1, 32, 32]⟩
abbrev S1 : Shape := ⟨1, ![1]⟩
abbrev S1x1 : Shape := ⟨2, ![1, 1]⟩

abbrev nBuf : Space → Nat
  | .hbm => 464
  | .vmem => 10
  | .smem => 0
  | _ => 0

abbrev hbmTy0_0 (i : Nat) : BufTy := match i % 128 with
  | 0 => ⟨S64x3x512x512, .f32⟩
  | 1 => ⟨S64x3x512x512, .f32⟩
  | 2 => ⟨S64x68x2, .f32⟩
  | 3 => ⟨S64x6x2, .f32⟩
  | 4 => ⟨S64x6x1, .f32⟩
  | 5 => ⟨S64x6, .f32⟩
  | 6 => ⟨S_, .f32⟩
  | 7 => ⟨S64, .f32⟩
  | 8 => ⟨S64x6x1, .f32⟩
  | 9 => ⟨S64x6, .f32⟩
  | 10 => ⟨S_, .f32⟩
  | 11 => ⟨S64, .f32⟩
  | 12 => ⟨S64x6x1, .f32⟩
  | 13 => ⟨S64x6, .f32⟩
  | 14 => ⟨S_, .f32⟩
  | 15 => ⟨S64, .f32⟩
  | 16 => ⟨S64x6x1, .f32⟩
  | 17 => ⟨S64x6, .f32⟩
  | 18 => ⟨S_, .f32⟩
  | 19 => ⟨S64, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S_, .f32⟩
  | 31 => ⟨S64, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S_, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S_, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S_, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S_, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S64, .f32⟩
  | 71 => ⟨S_, .f32⟩
  | 72 => ⟨S64, .f32⟩
  | 73 => ⟨S64, .i1⟩
  | 74 => ⟨S64, .f32⟩
  | 75 => ⟨S_, .f32⟩
  | 76 => ⟨S64, .f32⟩
  | 77 => ⟨S64, .i1⟩
  | 78 => ⟨S64, .i1⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S32, .f32⟩
  | 98 => ⟨S_, .f32⟩
  | 99 => ⟨S32, .f32⟩
  | 100 => ⟨S32, .f32⟩
  | 101 => ⟨S64x1, .f32⟩
  | 102 => ⟨S64, .f32⟩
  | 103 => ⟨S64x1, .f32⟩
  | 104 => ⟨S1x32, .f32⟩
  | 105 => ⟨S64x32, .f32⟩
  | 106 => ⟨S64x32, .f32⟩
  | 107 => ⟨S64x32, .f32⟩
  | 108 => ⟨S64x32, .f32⟩
  | 109 => ⟨S64x32, .f32⟩
  | 110 => ⟨S64x1, .i1⟩
  | 111 => ⟨S_, .f32⟩
  | 112 => ⟨S_, .f32⟩
  | 113 => ⟨S64x32, .i1⟩
  | 114 => ⟨S64x32, .f32⟩
  | 115 => ⟨S64x32, .f32⟩
  | 116 => ⟨S_, .f32⟩
  | 117 => ⟨S64x32, .f32⟩
  | 118 => ⟨S64x32, .f32⟩
  | 119 => ⟨S_, .f32⟩
  | 120 => ⟨S64x32, .f32⟩
  | 121 => ⟨S64x32, .f32⟩
  | 122 => ⟨S_, .f32⟩
  | 123 => ⟨S64x32, .f32⟩
  | 124 => ⟨S64x32, .f32⟩
  | 125 => ⟨S_, .f32⟩
  | 126 => ⟨S_, .f32⟩
  | 127 => ⟨S_, .f32⟩
  | _ => ⟨S64x3x512x512, .f32⟩

abbrev hbmTy0_1 (i : Nat) : BufTy := match i % 128 with
  | 0 => ⟨S64x32, .f32⟩
  | 1 => ⟨S64x32, .f32⟩
  | 2 => ⟨S_, .f32⟩
  | 3 => ⟨S64x32, .f32⟩
  | 4 => ⟨S64x32, .f32⟩
  | 5 => ⟨S_, .f32⟩
  | 6 => ⟨S_, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S_, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S_, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S_, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S64, .f32⟩
  | 40 => ⟨S64, .i1⟩
  | 41 => ⟨S64, .f32⟩
  | 42 => ⟨S_, .f32⟩
  | 43 => ⟨S64, .f32⟩
  | 44 => ⟨S64, .i1⟩
  | 45 => ⟨S64, .i1⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S32, .f32⟩
  | 65 => ⟨S_, .f32⟩
  | 66 => ⟨S32, .f32⟩
  | 67 => ⟨S32, .f32⟩
  | 68 => ⟨S64x1, .f32⟩
  | 69 => ⟨S64, .f32⟩
  | 70 => ⟨S64x1, .f32⟩
  | 71 => ⟨S1x32, .f32⟩
  | 72 => ⟨S64x32, .f32⟩
  | 73 => ⟨S64x32, .f32⟩
  | 74 => ⟨S64x32, .f32⟩
  | 75 => ⟨S64x32, .f32⟩
  | 76 => ⟨S64x32, .f32⟩
  | 77 => ⟨S64x1, .i1⟩
  | 78 => ⟨S_, .f32⟩
  | 79 => ⟨S_, .f32⟩
  | 80 => ⟨S64x32, .i1⟩
  | 81 => ⟨S64x32, .f32⟩
  | 82 => ⟨S64x32, .f32⟩
  | 83 => ⟨S_, .f32⟩
  | 84 => ⟨S64x32, .f32⟩
  | 85 => ⟨S64x32, .f32⟩
  | 86 => ⟨S_, .f32⟩
  | 87 => ⟨S64x32, .f32⟩
  | 88 => ⟨S64x32, .f32⟩
  | 89 => ⟨S_, .f32⟩
  | 90 => ⟨S64x32, .f32⟩
  | 91 => ⟨S64x32, .f32⟩
  | 92 => ⟨S_, .f32⟩
  | 93 => ⟨S_, .f32⟩
  | 94 => ⟨S_, .f32⟩
  | 95 => ⟨S64x32, .f32⟩
  | 96 => ⟨S64x32, .f32⟩
  | 97 => ⟨S_, .f32⟩
  | 98 => ⟨S64x32, .f32⟩
  | 99 => ⟨S64x32, .f32⟩
  | 100 => ⟨S64x6x2, .f32⟩
  | 101 => ⟨S64x6x1, .f32⟩
  | 102 => ⟨S64x6, .f32⟩
  | 103 => ⟨S_, .f32⟩
  | 104 => ⟨S64, .f32⟩
  | 105 => ⟨S64x6x1, .f32⟩
  | 106 => ⟨S64x6, .f32⟩
  | 107 => ⟨S_, .f32⟩
  | 108 => ⟨S64, .f32⟩
  | 109 => ⟨S64x6x1, .f32⟩
  | 110 => ⟨S64x6, .f32⟩
  | 111 => ⟨S_, .f32⟩
  | 112 => ⟨S64, .f32⟩
  | 113 => ⟨S64x6x1, .f32⟩
  | 114 => ⟨S64x6, .f32⟩
  | 115 => ⟨S_, .f32⟩
  | 116 => ⟨S64, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S_, .f32⟩
  | 124 => ⟨S64, .f32⟩
  | 125 => ⟨S64, .f32⟩
  | 126 => ⟨S64, .f32⟩
  | 127 => ⟨S_, .f32⟩
  | _ => ⟨S64x3x512x512, .f32⟩

abbrev hbmTy0_2 (i : Nat) : BufTy := match i % 128 with
  | 0 => ⟨S64, .f32⟩
  | 1 => ⟨S64, .f32⟩
  | 2 => ⟨S64, .f32⟩
  | 3 => ⟨S_, .f32⟩
  | 4 => ⟨S64, .f32⟩
  | 5 => ⟨S64, .f32⟩
  | 6 => ⟨S64, .f32⟩
  | 7 => ⟨S_, .f32⟩
  | 8 => ⟨S_, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S_, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S_, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S_, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S_, .f32⟩
  | 41 => ⟨S64, .f32⟩
  | 42 => ⟨S64, .i1⟩
  | 43 => ⟨S64, .f32⟩
  | 44 => ⟨S_, .f32⟩
  | 45 => ⟨S64, .f32⟩
  | 46 => ⟨S64, .i1⟩
  | 47 => ⟨S64, .i1⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S32, .f32⟩
  | 67 => ⟨S_, .f32⟩
  | 68 => ⟨S32, .f32⟩
  | 69 => ⟨S32, .f32⟩
  | 70 => ⟨S64x1, .f32⟩
  | 71 => ⟨S64, .f32⟩
  | 72 => ⟨S64x1, .f32⟩
  | 73 => ⟨S1x32, .f32⟩
  | 74 => ⟨S64x32, .f32⟩
  | 75 => ⟨S64x32, .f32⟩
  | 76 => ⟨S64x32, .f32⟩
  | 77 => ⟨S64x32, .f32⟩
  | 78 => ⟨S64x32, .f32⟩
  | 79 => ⟨S64x1, .i1⟩
  | 80 => ⟨S_, .f32⟩
  | 81 => ⟨S_, .f32⟩
  | 82 => ⟨S64x32, .i1⟩
  | 83 => ⟨S64x32, .f32⟩
  | 84 => ⟨S64x32, .f32⟩
  | 85 => ⟨S_, .f32⟩
  | 86 => ⟨S64x32, .f32⟩
  | 87 => ⟨S64x32, .f32⟩
  | 88 => ⟨S_, .f32⟩
  | 89 => ⟨S64x32, .f32⟩
  | 90 => ⟨S64x32, .f32⟩
  | 91 => ⟨S_, .f32⟩
  | 92 => ⟨S64x32, .f32⟩
  | 93 => ⟨S64x32, .f32⟩
  | 94 => ⟨S_, .f32⟩
  | 95 => ⟨S_, .f32⟩
  | 96 => ⟨S_, .f32⟩
  | 97 => ⟨S64x32, .f32⟩
  | 98 => ⟨S64x32, .f32⟩
  | 99 => ⟨S_, .f32⟩
  | 100 => ⟨S64x32, .f32⟩
  | 101 => ⟨S64x32, .f32⟩
  | 102 => ⟨S_, .f32⟩
  | 103 => ⟨S_, .f32⟩
  | 104 => ⟨S_, .f32⟩
  | 105 => ⟨S64, .f32⟩
  | 106 => ⟨S64, .f32⟩
  | 107 => ⟨S_, .f32⟩
  | 108 => ⟨S64, .f32⟩
  | 109 => ⟨S64, .f32⟩
  | 110 => ⟨S_, .f32⟩
  | 111 => ⟨S_, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S_, .f32⟩
  | 119 => ⟨S_, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S_, .f32⟩
  | 127 => ⟨S_, .f32⟩
  | _ => ⟨S64x3x512x512, .f32⟩

abbrev hbmTy0_3 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S64, .f32⟩
  | 7 => ⟨S_, .f32⟩
  | 8 => ⟨S64, .f32⟩
  | 9 => ⟨S64, .i1⟩
  | 10 => ⟨S64, .f32⟩
  | 11 => ⟨S_, .f32⟩
  | 12 => ⟨S64, .f32⟩
  | 13 => ⟨S64, .i1⟩
  | 14 => ⟨S64, .i1⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S32, .f32⟩
  | 34 => ⟨S_, .f32⟩
  | 35 => ⟨S32, .f32⟩
  | 36 => ⟨S32, .f32⟩
  | 37 => ⟨S64x1, .f32⟩
  | 38 => ⟨S64, .f32⟩
  | 39 => ⟨S64x1, .f32⟩
  | 40 => ⟨S1x32, .f32⟩
  | 41 => ⟨S64x32, .f32⟩
  | 42 => ⟨S64x32, .f32⟩
  | 43 => ⟨S64x32, .f32⟩
  | 44 => ⟨S64x32, .f32⟩
  | 45 => ⟨S64x32, .f32⟩
  | 46 => ⟨S64x1, .i1⟩
  | 47 => ⟨S_, .f32⟩
  | 48 => ⟨S_, .f32⟩
  | 49 => ⟨S64x32, .i1⟩
  | 50 => ⟨S64x32, .f32⟩
  | 51 => ⟨S64x32, .f32⟩
  | 52 => ⟨S_, .f32⟩
  | 53 => ⟨S64x32, .f32⟩
  | 54 => ⟨S64x32, .f32⟩
  | 55 => ⟨S_, .f32⟩
  | 56 => ⟨S64x32, .f32⟩
  | 57 => ⟨S64x32, .f32⟩
  | 58 => ⟨S_, .f32⟩
  | 59 => ⟨S64x32, .f32⟩
  | 60 => ⟨S64x32, .f32⟩
  | 61 => ⟨S_, .f32⟩
  | 62 => ⟨S_, .f32⟩
  | 63 => ⟨S_, .f32⟩
  | 64 => ⟨S64x32, .f32⟩
  | 65 => ⟨S64x32, .f32⟩
  | 66 => ⟨S_, .f32⟩
  | 67 => ⟨S64x32, .f32⟩
  | 68 => ⟨S64x32, .f32⟩
  | 69 => ⟨S64x1x32, .f32⟩
  | 70 => ⟨S64x1x32, .f32⟩
  | 71 => ⟨S64x2x32, .f32⟩
  | 72 => ⟨S64x32x1, .f32⟩
  | 73 => ⟨S64x32x1, .f32⟩
  | 74 => ⟨S64x32x2, .f32⟩
  | 75 => ⟨S64x1x1, .f32⟩
  | 76 => ⟨S_, .f32⟩
  | 77 => ⟨S_, .f32⟩
  | 78 => ⟨S_, .f32⟩
  | 79 => ⟨S_, .f32⟩
  | _ => ⟨S64x3x512x512, .f32⟩

abbrev hbmTy (i : Nat) : BufTy := match i / 128 with
  | 0 => hbmTy0_0 i
  | 1 => hbmTy0_1 i
  | 2 => hbmTy0_2 i
  | 3 => hbmTy0_3 i
  | _ => ⟨S64x3x512x512, .f32⟩

abbrev bufTy : (tb : Table) → Fin (tcTables nBuf tb) → BufTy
  | .hbm, ⟨i, _⟩ => hbmTy i
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x2x32, .f32⟩
  | .local _ .vmem, ⟨5, _⟩ => ⟨S1x2x32, .f32⟩
  | .local _ .vmem, ⟨6, _⟩ => ⟨S1x32x2, .f32⟩
  | .local _ .vmem, ⟨7, _⟩ => ⟨S1x32x2, .f32⟩
  | .local _ .vmem, ⟨8, _⟩ => ⟨S1x1x1, .f32⟩
  | .local _ .vmem, ⟨9, _⟩ => ⟨S1x1x1, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_cst_9 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_cst_11 : Ref sig .tc := ⟨.hbm, 54, rfl⟩
abbrev main_cst_12 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v29 : Ref sig .tc := ⟨.hbm, 61, rfl⟩
abbrev main_cst_13 : Ref sig .tc := ⟨.hbm, 62, rfl⟩
abbrev main_cst_14 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v30 : Ref sig .tc := ⟨.hbm, 69, rfl⟩
abbrev main_v31 : Ref sig .tc := ⟨.hbm, 70, rfl⟩
abbrev main_cst_15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_16 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_17 : Ref sig .tc := ⟨.hbm, 79, rfl⟩
abbrev main_v38 : Ref sig .tc := ⟨.hbm, 80, rfl⟩
abbrev main_v39 : Ref sig .tc := ⟨.hbm, 81, rfl⟩
abbrev main_cst_18 : Ref sig .tc := ⟨.hbm, 82, rfl⟩
abbrev main_v40 : Ref sig .tc := ⟨.hbm, 83, rfl⟩
abbrev main_v41 : Ref sig .tc := ⟨.hbm, 84, rfl⟩
abbrev main_cst_19 : Ref sig .tc := ⟨.hbm, 85, rfl⟩
abbrev main_v42 : Ref sig .tc := ⟨.hbm, 86, rfl⟩
abbrev main_v43 : Ref sig .tc := ⟨.hbm, 87, rfl⟩
abbrev main_cst_20 : Ref sig .tc := ⟨.hbm, 88, rfl⟩
abbrev main_v44 : Ref sig .tc := ⟨.hbm, 89, rfl⟩
abbrev main_v45 : Ref sig .tc := ⟨.hbm, 90, rfl⟩
abbrev main_cst_21 : Ref sig .tc := ⟨.hbm, 91, rfl⟩
abbrev main_v46 : Ref sig .tc := ⟨.hbm, 92, rfl⟩
abbrev main_v47 : Ref sig .tc := ⟨.hbm, 93, rfl⟩
abbrev main_cst_22 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_23 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_24 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v63 : Ref sig .tc := ⟨.hbm, 115, rfl⟩
abbrev main_cst_25 : Ref sig .tc := ⟨.hbm, 116, rfl⟩
abbrev main_v64 : Ref sig .tc := ⟨.hbm, 117, rfl⟩
abbrev main_v65 : Ref sig .tc := ⟨.hbm, 118, rfl⟩
abbrev main_cst_26 : Ref sig .tc := ⟨.hbm, 119, rfl⟩
abbrev main_v66 : Ref sig .tc := ⟨.hbm, 120, rfl⟩
abbrev main_v67 : Ref sig .tc := ⟨.hbm, 121, rfl⟩
abbrev main_cst_27 : Ref sig .tc := ⟨.hbm, 122, rfl⟩
abbrev main_v68 : Ref sig .tc := ⟨.hbm, 123, rfl⟩
abbrev main_v69 : Ref sig .tc := ⟨.hbm, 124, rfl⟩
abbrev main_cst_28 : Ref sig .tc := ⟨.hbm, 125, rfl⟩
abbrev main_cst_29 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v70 : Ref sig .tc := ⟨.hbm, 132, rfl⟩
abbrev main_cst_30 : Ref sig .tc := ⟨.hbm, 133, rfl⟩
abbrev main_cst_31 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_v71 : Ref sig .tc := ⟨.hbm, 140, rfl⟩
abbrev main_cst_32 : Ref sig .tc := ⟨.hbm, 141, rfl⟩
abbrev main_cst_33 : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_v72 : Ref sig .tc := ⟨.hbm, 148, rfl⟩
abbrev main_cst_34 : Ref sig .tc := ⟨.hbm, 149, rfl⟩
abbrev main_cst_35 : Ref sig .tc := ⟨.hbm, 150, rfl⟩
abbrev main_call8_v0 : Ref sig .tc := ⟨.hbm, 151, rfl⟩
abbrev main_call8_v1 : Ref sig .tc := ⟨.hbm, 152, rfl⟩
abbrev main_call8_v2 : Ref sig .tc := ⟨.hbm, 153, rfl⟩
abbrev main_call8_v3 : Ref sig .tc := ⟨.hbm, 154, rfl⟩
abbrev main_call8_v4 : Ref sig .tc := ⟨.hbm, 155, rfl⟩
abbrev main_v73 : Ref sig .tc := ⟨.hbm, 156, rfl⟩
abbrev main_cst_36 : Ref sig .tc := ⟨.hbm, 157, rfl⟩
abbrev main_cst_37 : Ref sig .tc := ⟨.hbm, 158, rfl⟩
abbrev main_call9_v0 : Ref sig .tc := ⟨.hbm, 159, rfl⟩
abbrev main_call9_v1 : Ref sig .tc := ⟨.hbm, 160, rfl⟩
abbrev main_call9_v2 : Ref sig .tc := ⟨.hbm, 161, rfl⟩
abbrev main_call9_v3 : Ref sig .tc := ⟨.hbm, 162, rfl⟩
abbrev main_call9_v4 : Ref sig .tc := ⟨.hbm, 163, rfl⟩
abbrev main_v74 : Ref sig .tc := ⟨.hbm, 164, rfl⟩
abbrev main_v75 : Ref sig .tc := ⟨.hbm, 165, rfl⟩
abbrev main_cst_38 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_cst_39 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_cst_40 : Ref sig .tc := ⟨.hbm, 174, rfl⟩
abbrev main_v82 : Ref sig .tc := ⟨.hbm, 175, rfl⟩
abbrev main_v83 : Ref sig .tc := ⟨.hbm, 176, rfl⟩
abbrev main_cst_41 : Ref sig .tc := ⟨.hbm, 177, rfl⟩
abbrev main_v84 : Ref sig .tc := ⟨.hbm, 178, rfl⟩
abbrev main_v85 : Ref sig .tc := ⟨.hbm, 179, rfl⟩
abbrev main_cst_42 : Ref sig .tc := ⟨.hbm, 180, rfl⟩
abbrev main_v86 : Ref sig .tc := ⟨.hbm, 181, rfl⟩
abbrev main_v87 : Ref sig .tc := ⟨.hbm, 182, rfl⟩
abbrev main_cst_43 : Ref sig .tc := ⟨.hbm, 183, rfl⟩
abbrev main_v88 : Ref sig .tc := ⟨.hbm, 184, rfl⟩
abbrev main_v89 : Ref sig .tc := ⟨.hbm, 185, rfl⟩
abbrev main_cst_44 : Ref sig .tc := ⟨.hbm, 186, rfl⟩
abbrev main_v90 : Ref sig .tc := ⟨.hbm, 187, rfl⟩
abbrev main_v91 : Ref sig .tc := ⟨.hbm, 188, rfl⟩
abbrev main_cst_45 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_46 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_cst_47 : Ref sig .tc := ⟨.hbm, 206, rfl⟩
abbrev main_call10_v0 : Ref sig .tc := ⟨.hbm, 207, rfl⟩
abbrev main_call10_v1 : Ref sig .tc := ⟨.hbm, 208, rfl⟩
abbrev main_call10_v2 : Ref sig .tc := ⟨.hbm, 209, rfl⟩
abbrev main_v107 : Ref sig .tc := ⟨.hbm, 210, rfl⟩
abbrev main_cst_48 : Ref sig .tc := ⟨.hbm, 211, rfl⟩
abbrev main_v108 : Ref sig .tc := ⟨.hbm, 212, rfl⟩
abbrev main_v109 : Ref sig .tc := ⟨.hbm, 213, rfl⟩
abbrev main_cst_49 : Ref sig .tc := ⟨.hbm, 214, rfl⟩
abbrev main_v110 : Ref sig .tc := ⟨.hbm, 215, rfl⟩
abbrev main_v111 : Ref sig .tc := ⟨.hbm, 216, rfl⟩
abbrev main_cst_50 : Ref sig .tc := ⟨.hbm, 217, rfl⟩
abbrev main_v112 : Ref sig .tc := ⟨.hbm, 218, rfl⟩
abbrev main_v113 : Ref sig .tc := ⟨.hbm, 219, rfl⟩
abbrev main_cst_51 : Ref sig .tc := ⟨.hbm, 220, rfl⟩
abbrev main_cst_52 : Ref sig .tc := ⟨.hbm, 221, rfl⟩
abbrev main_call11_v0 : Ref sig .tc := ⟨.hbm, 222, rfl⟩
abbrev main_call11_v1 : Ref sig .tc := ⟨.hbm, 223, rfl⟩
abbrev main_call11_v2 : Ref sig .tc := ⟨.hbm, 224, rfl⟩
abbrev main_call11_v3 : Ref sig .tc := ⟨.hbm, 225, rfl⟩
abbrev main_call11_v4 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_cst_53 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_cst_54 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_cst_55 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_cst_56 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_cst_57 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_cst_58 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_cst_59 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_cst_60 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_cst_61 : Ref sig .tc := ⟨.hbm, 263, rfl⟩
abbrev main_cst_62 : Ref sig .tc := ⟨.hbm, 264, rfl⟩
abbrev main_call12_v0 : Ref sig .tc := ⟨.hbm, 265, rfl⟩
abbrev main_call12_v1 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_v142 : Ref sig .tc := ⟨.hbm, 270, rfl⟩
abbrev main_cst_63 : Ref sig .tc := ⟨.hbm, 271, rfl⟩
abbrev main_cst_64 : Ref sig .tc := ⟨.hbm, 272, rfl⟩
abbrev main_call13_v0 : Ref sig .tc := ⟨.hbm, 273, rfl⟩
abbrev main_call13_v1 : Ref sig .tc := ⟨.hbm, 274, rfl⟩
abbrev main_call13_v2 : Ref sig .tc := ⟨.hbm, 275, rfl⟩
abbrev main_call13_v3 : Ref sig .tc := ⟨.hbm, 276, rfl⟩
abbrev main_call13_v4 : Ref sig .tc := ⟨.hbm, 277, rfl⟩
abbrev main_v143 : Ref sig .tc := ⟨.hbm, 278, rfl⟩
abbrev main_cst_65 : Ref sig .tc := ⟨.hbm, 279, rfl⟩
abbrev main_cst_66 : Ref sig .tc := ⟨.hbm, 280, rfl⟩
abbrev main_call14_v0 : Ref sig .tc := ⟨.hbm, 281, rfl⟩
abbrev main_call14_v1 : Ref sig .tc := ⟨.hbm, 282, rfl⟩
abbrev main_call14_v2 : Ref sig .tc := ⟨.hbm, 283, rfl⟩
abbrev main_call14_v3 : Ref sig .tc := ⟨.hbm, 284, rfl⟩
abbrev main_call14_v4 : Ref sig .tc := ⟨.hbm, 285, rfl⟩
abbrev main_v144 : Ref sig .tc := ⟨.hbm, 286, rfl⟩
abbrev main_cst_67 : Ref sig .tc := ⟨.hbm, 287, rfl⟩
abbrev main_cst_68 : Ref sig .tc := ⟨.hbm, 288, rfl⟩
abbrev main_call15_v0 : Ref sig .tc := ⟨.hbm, 289, rfl⟩
abbrev main_call15_v1 : Ref sig .tc := ⟨.hbm, 290, rfl⟩
abbrev main_call15_v2 : Ref sig .tc := ⟨.hbm, 291, rfl⟩
abbrev main_call15_v3 : Ref sig .tc := ⟨.hbm, 292, rfl⟩
abbrev main_call15_v4 : Ref sig .tc := ⟨.hbm, 293, rfl⟩
abbrev main_v145 : Ref sig .tc := ⟨.hbm, 294, rfl⟩
abbrev main_v146 : Ref sig .tc := ⟨.hbm, 295, rfl⟩
abbrev main_cst_69 : Ref sig .tc := ⟨.hbm, 296, rfl⟩
abbrev main_v147 : Ref sig .tc := ⟨.hbm, 297, rfl⟩
abbrev main_v148 : Ref sig .tc := ⟨.hbm, 298, rfl⟩
abbrev main_v149 : Ref sig .tc := ⟨.hbm, 299, rfl⟩
abbrev main_cst_70 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_cst_71 : Ref sig .tc := ⟨.hbm, 304, rfl⟩
abbrev main_v153 : Ref sig .tc := ⟨.hbm, 305, rfl⟩
abbrev main_v154 : Ref sig .tc := ⟨.hbm, 306, rfl⟩
abbrev main_cst_72 : Ref sig .tc := ⟨.hbm, 307, rfl⟩
abbrev main_v155 : Ref sig .tc := ⟨.hbm, 308, rfl⟩
abbrev main_v156 : Ref sig .tc := ⟨.hbm, 309, rfl⟩
abbrev main_cst_73 : Ref sig .tc := ⟨.hbm, 310, rfl⟩
abbrev main_v157 : Ref sig .tc := ⟨.hbm, 311, rfl⟩
abbrev main_v158 : Ref sig .tc := ⟨.hbm, 312, rfl⟩
abbrev main_cst_74 : Ref sig .tc := ⟨.hbm, 313, rfl⟩
abbrev main_v159 : Ref sig .tc := ⟨.hbm, 314, rfl⟩
abbrev main_v160 : Ref sig .tc := ⟨.hbm, 315, rfl⟩
abbrev main_cst_75 : Ref sig .tc := ⟨.hbm, 316, rfl⟩
abbrev main_v161 : Ref sig .tc := ⟨.hbm, 317, rfl⟩
abbrev main_v162 : Ref sig .tc := ⟨.hbm, 318, rfl⟩
abbrev main_cst_76 : Ref sig .tc := ⟨.hbm, 319, rfl⟩
abbrev main_v163 : Ref sig .tc := ⟨.hbm, 320, rfl⟩
abbrev main_v164 : Ref sig .tc := ⟨.hbm, 321, rfl⟩
abbrev main_v165 : Ref sig .tc := ⟨.hbm, 322, rfl⟩
abbrev main_cst_77 : Ref sig .tc := ⟨.hbm, 323, rfl⟩
abbrev main_v166 : Ref sig .tc := ⟨.hbm, 324, rfl⟩
abbrev main_v167 : Ref sig .tc := ⟨.hbm, 325, rfl⟩
abbrev main_v168 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_v173 : Ref sig .tc := ⟨.hbm, 331, rfl⟩
abbrev main_v174 : Ref sig .tc := ⟨.hbm, 332, rfl⟩
abbrev main_v175 : Ref sig .tc := ⟨.hbm, 333, rfl⟩
abbrev main_v176 : Ref sig .tc := ⟨.hbm, 334, rfl⟩
abbrev main_v177 : Ref sig .tc := ⟨.hbm, 335, rfl⟩
abbrev main_cst_78 : Ref sig .tc := ⟨.hbm, 336, rfl⟩
abbrev main_call16_v0 : Ref sig .tc := ⟨.hbm, 337, rfl⟩
abbrev main_call16_v1 : Ref sig .tc := ⟨.hbm, 338, rfl⟩
abbrev main_call16_v2 : Ref sig .tc := ⟨.hbm, 339, rfl⟩
abbrev main_v178 : Ref sig .tc := ⟨.hbm, 340, rfl⟩
abbrev main_cst_79 : Ref sig .tc := ⟨.hbm, 341, rfl⟩
abbrev main_v179 : Ref sig .tc := ⟨.hbm, 342, rfl⟩
abbrev main_v180 : Ref sig .tc := ⟨.hbm, 343, rfl⟩
abbrev main_cst_80 : Ref sig .tc := ⟨.hbm, 344, rfl⟩
abbrev main_v181 : Ref sig .tc := ⟨.hbm, 345, rfl⟩
abbrev main_v182 : Ref sig .tc := ⟨.hbm, 346, rfl⟩
abbrev main_cst_81 : Ref sig .tc := ⟨.hbm, 347, rfl⟩
abbrev main_v183 : Ref sig .tc := ⟨.hbm, 348, rfl⟩
abbrev main_v184 : Ref sig .tc := ⟨.hbm, 349, rfl⟩
abbrev main_cst_82 : Ref sig .tc := ⟨.hbm, 350, rfl⟩
abbrev main_cst_83 : Ref sig .tc := ⟨.hbm, 351, rfl⟩
abbrev main_call17_v0 : Ref sig .tc := ⟨.hbm, 352, rfl⟩
abbrev main_call17_v1 : Ref sig .tc := ⟨.hbm, 353, rfl⟩
abbrev main_call17_v2 : Ref sig .tc := ⟨.hbm, 354, rfl⟩
abbrev main_call17_v3 : Ref sig .tc := ⟨.hbm, 355, rfl⟩
abbrev main_call17_v4 : Ref sig .tc := ⟨.hbm, 356, rfl⟩
abbrev main_v185 : Ref sig .tc := ⟨.hbm, 357, rfl⟩
abbrev main_cst_84 : Ref sig .tc := ⟨.hbm, 358, rfl⟩
abbrev main_cst_85 : Ref sig .tc := ⟨.hbm, 359, rfl⟩
abbrev main_call18_v0 : Ref sig .tc := ⟨.hbm, 360, rfl⟩
abbrev main_call18_v1 : Ref sig .tc := ⟨.hbm, 361, rfl⟩
abbrev main_call18_v2 : Ref sig .tc := ⟨.hbm, 362, rfl⟩
abbrev main_call18_v3 : Ref sig .tc := ⟨.hbm, 363, rfl⟩
abbrev main_call18_v4 : Ref sig .tc := ⟨.hbm, 364, rfl⟩
abbrev main_v186 : Ref sig .tc := ⟨.hbm, 365, rfl⟩
abbrev main_cst_86 : Ref sig .tc := ⟨.hbm, 366, rfl⟩
abbrev main_cst_87 : Ref sig .tc := ⟨.hbm, 367, rfl⟩
abbrev main_call19_v0 : Ref sig .tc := ⟨.hbm, 368, rfl⟩
abbrev main_call19_v1 : Ref sig .tc := ⟨.hbm, 369, rfl⟩
abbrev main_call19_v2 : Ref sig .tc := ⟨.hbm, 370, rfl⟩
abbrev main_call19_v3 : Ref sig .tc := ⟨.hbm, 371, rfl⟩
abbrev main_call19_v4 : Ref sig .tc := ⟨.hbm, 372, rfl⟩
abbrev main_v187 : Ref sig .tc := ⟨.hbm, 373, rfl⟩
abbrev main_cst_88 : Ref sig .tc := ⟨.hbm, 374, rfl⟩
abbrev main_cst_89 : Ref sig .tc := ⟨.hbm, 375, rfl⟩
abbrev main_call20_v0 : Ref sig .tc := ⟨.hbm, 376, rfl⟩
abbrev main_call20_v1 : Ref sig .tc := ⟨.hbm, 377, rfl⟩
abbrev main_call20_v2 : Ref sig .tc := ⟨.hbm, 378, rfl⟩
abbrev main_call20_v3 : Ref sig .tc := ⟨.hbm, 379, rfl⟩
abbrev main_call20_v4 : Ref sig .tc := ⟨.hbm, 380, rfl⟩
abbrev main_v188 : Ref sig .tc := ⟨.hbm, 381, rfl⟩
abbrev main_cst_90 : Ref sig .tc := ⟨.hbm, 382, rfl⟩
abbrev main_cst_91 : Ref sig .tc := ⟨.hbm, 383, rfl⟩
abbrev main_call21_v0 : Ref sig .tc := ⟨.hbm, 384, rfl⟩
abbrev main_call21_v1 : Ref sig .tc := ⟨.hbm, 385, rfl⟩
abbrev main_call21_v2 : Ref sig .tc := ⟨.hbm, 386, rfl⟩
abbrev main_call21_v3 : Ref sig .tc := ⟨.hbm, 387, rfl⟩
abbrev main_call21_v4 : Ref sig .tc := ⟨.hbm, 388, rfl⟩
abbrev main_v189 : Ref sig .tc := ⟨.hbm, 389, rfl⟩
abbrev main_v190 : Ref sig .tc := ⟨.hbm, 390, rfl⟩
abbrev main_cst_92 : Ref sig .tc := ⟨.hbm, 391, rfl⟩
abbrev main_v191 : Ref sig .tc := ⟨.hbm, 392, rfl⟩
abbrev main_v192 : Ref sig .tc := ⟨.hbm, 393, rfl⟩
abbrev main_v193 : Ref sig .tc := ⟨.hbm, 394, rfl⟩
abbrev main_cst_93 : Ref sig .tc := ⟨.hbm, 395, rfl⟩
abbrev main_v194 : Ref sig .tc := ⟨.hbm, 396, rfl⟩
abbrev main_v195 : Ref sig .tc := ⟨.hbm, 397, rfl⟩
abbrev main_v196 : Ref sig .tc := ⟨.hbm, 398, rfl⟩
abbrev main_cst_94 : Ref sig .tc := ⟨.hbm, 399, rfl⟩
abbrev main_v197 : Ref sig .tc := ⟨.hbm, 400, rfl⟩
abbrev main_v198 : Ref sig .tc := ⟨.hbm, 401, rfl⟩
abbrev main_cst_95 : Ref sig .tc := ⟨.hbm, 402, rfl⟩
abbrev main_v199 : Ref sig .tc := ⟨.hbm, 403, rfl⟩
abbrev main_v200 : Ref sig .tc := ⟨.hbm, 404, rfl⟩
abbrev main_cst_96 : Ref sig .tc := ⟨.hbm, 405, rfl⟩
abbrev main_v201 : Ref sig .tc := ⟨.hbm, 406, rfl⟩
abbrev main_v202 : Ref sig .tc := ⟨.hbm, 407, rfl⟩
abbrev main_cst_97 : Ref sig .tc := ⟨.hbm, 408, rfl⟩
abbrev main_v203 : Ref sig .tc := ⟨.hbm, 409, rfl⟩
abbrev main_v204 : Ref sig .tc := ⟨.hbm, 410, rfl⟩
abbrev main_cst_98 : Ref sig .tc := ⟨.hbm, 411, rfl⟩
abbrev main_v205 : Ref sig .tc := ⟨.hbm, 412, rfl⟩
abbrev main_v206 : Ref sig .tc := ⟨.hbm, 413, rfl⟩
abbrev main_cst_99 : Ref sig .tc := ⟨.hbm, 414, rfl⟩
abbrev main_v207 : Ref sig .tc := ⟨.hbm, 415, rfl⟩
abbrev main_v208 : Ref sig .tc := ⟨.hbm, 416, rfl⟩
abbrev main_v209 : Ref sig .tc := ⟨.hbm, 417, rfl⟩
abbrev main_cst_100 : Ref sig .tc := ⟨.hbm, 418, rfl⟩
abbrev main_v210 : Ref sig .tc := ⟨.hbm, 419, rfl⟩
abbrev main_v211 : Ref sig .tc := ⟨.hbm, 420, rfl⟩
abbrev main_v212 : Ref sig .tc := ⟨.hbm, 421, rfl⟩
abbrev main_v213 : Ref sig .tc := ⟨.hbm, 422, rfl⟩
abbrev main_v214 : Ref sig .tc := ⟨.hbm, 423, rfl⟩
abbrev main_v215 : Ref sig .tc := ⟨.hbm, 424, rfl⟩
abbrev main_v216 : Ref sig .tc := ⟨.hbm, 425, rfl⟩
abbrev main_v217 : Ref sig .tc := ⟨.hbm, 426, rfl⟩
abbrev main_v218 : Ref sig .tc := ⟨.hbm, 427, rfl⟩
abbrev main_v219 : Ref sig .tc := ⟨.hbm, 428, rfl⟩
abbrev main_v220 : Ref sig .tc := ⟨.hbm, 429, rfl⟩
abbrev main_v221 : Ref sig .tc := ⟨.hbm, 430, rfl⟩
abbrev main_cst_101 : Ref sig .tc := ⟨.hbm, 431, rfl⟩
abbrev main_call22_v0 : Ref sig .tc := ⟨.hbm, 432, rfl⟩
abbrev main_call22_v1 : Ref sig .tc := ⟨.hbm, 433, rfl⟩
abbrev main_call22_v2 : Ref sig .tc := ⟨.hbm, 434, rfl⟩
abbrev main_v222 : Ref sig .tc := ⟨.hbm, 435, rfl⟩
abbrev main_cst_102 : Ref sig .tc := ⟨.hbm, 436, rfl⟩
abbrev main_v223 : Ref sig .tc := ⟨.hbm, 437, rfl⟩
abbrev main_v224 : Ref sig .tc := ⟨.hbm, 438, rfl⟩
abbrev main_cst_103 : Ref sig .tc := ⟨.hbm, 439, rfl⟩
abbrev main_v225 : Ref sig .tc := ⟨.hbm, 440, rfl⟩
abbrev main_v226 : Ref sig .tc := ⟨.hbm, 441, rfl⟩
abbrev main_cst_104 : Ref sig .tc := ⟨.hbm, 442, rfl⟩
abbrev main_v227 : Ref sig .tc := ⟨.hbm, 443, rfl⟩
abbrev main_v228 : Ref sig .tc := ⟨.hbm, 444, rfl⟩
abbrev main_cst_105 : Ref sig .tc := ⟨.hbm, 445, rfl⟩
abbrev main_cst_106 : Ref sig .tc := ⟨.hbm, 446, rfl⟩
abbrev main_call23_v0 : Ref sig .tc := ⟨.hbm, 447, rfl⟩
abbrev main_call23_v1 : Ref sig .tc := ⟨.hbm, 448, rfl⟩
abbrev main_call23_v2 : Ref sig .tc := ⟨.hbm, 449, rfl⟩
abbrev main_call23_v3 : Ref sig .tc := ⟨.hbm, 450, rfl⟩
abbrev main_call23_v4 : Ref sig .tc := ⟨.hbm, 451, rfl⟩
abbrev main_v229 : Ref sig .tc := ⟨.hbm, 452, rfl⟩
abbrev main_v230 : Ref sig .tc := ⟨.hbm, 453, rfl⟩
abbrev main_v231 : Ref sig .tc := ⟨.hbm, 454, rfl⟩
abbrev main_v232 : Ref sig .tc := ⟨.hbm, 455, rfl⟩
abbrev main_v233 : Ref sig .tc := ⟨.hbm, 456, rfl⟩
abbrev main_v234 : Ref sig .tc := ⟨.hbm, 457, rfl⟩
abbrev main_v235 : Ref sig .tc := ⟨.hbm, 458, rfl⟩
abbrev main_v236 : Ref sig .tc := ⟨.hbm, 459, rfl⟩
abbrev main_cst_107 : Ref sig .tc := ⟨.hbm, 460, rfl⟩
abbrev main_v237 : Ref sig .tc := ⟨.hbm, 461, rfl⟩
abbrev main_cst_108 : Ref sig .tc := ⟨.hbm, 462, rfl⟩
abbrev main_v238 : Ref sig .tc := ⟨.hbm, 463, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S64x3x512x512 : Shape := ⟨4, ![64, 3, 512, 512]⟩
abbrev S64x68x2 : Shape := ⟨3, ![64, 68, 2]⟩
abbrev S6 : Shape := ⟨1, ![6]⟩
abbrev S_ : Shape := ⟨0, ![]⟩
abbrev S6x1 : Shape := ⟨2, ![6, 1]⟩
abbrev S64x6x2 : Shape := ⟨3, ![64, 6, 2]⟩
abbrev S64x6x1 : Shape := ⟨3, ![64, 6, 1]⟩
abbrev S64x6 : Shape := ⟨2, ![64, 6]⟩
abbrev S64 : Shape := ⟨1, ![64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S64x32x32 : Shape := ⟨3, ![64, 32, 32]⟩
abbrev S64x32x1 : Shape := ⟨3, ![64, 32, 1]⟩
abbrev S64x1x1 : Shape := ⟨3, ![64, 1, 1]⟩
abbrev S64x32x32x1 : Shape := ⟨4, ![64, 32, 32, 1]⟩
abbrev S64x32x32x2 : Shape := ⟨4, ![64, 32, 32, 2]⟩
abbrev S64x3x32x32 : Shape := ⟨4, ![64, 3, 32, 32]⟩
abbrev S64x1x32x32 : Shape := ⟨4, ![64, 1, 32, 32]⟩

abbrev nBuf : Space → Nat
  | .hbm => 1318
  | .vmem => 0
  | .smem => 0
  | _ => 0

abbrev hbmTy0_0 (i : Nat) : BufTy := match i % 128 with
  | 0 => ⟨S64x3x512x512, .f32⟩
  | 1 => ⟨S64x3x512x512, .f32⟩
  | 2 => ⟨S64x68x2, .f32⟩
  | 3 => ⟨S6, .i32⟩
  | 4 => ⟨S6, .i1⟩
  | 5 => ⟨S6, .i32⟩
  | 6 => ⟨S6, .i1⟩
  | 7 => ⟨S_, .i32⟩
  | 8 => ⟨S6, .i32⟩
  | 9 => ⟨S6, .i32⟩
  | 10 => ⟨S6, .i32⟩
  | 11 => ⟨S6x1, .i32⟩
  | 12 => ⟨S64x6x2, .f32⟩
  | 13 => ⟨S64x6x1, .f32⟩
  | 14 => ⟨S64x6, .f32⟩
  | 15 => ⟨S_, .f32⟩
  | 16 => ⟨S64, .f32⟩
  | 17 => ⟨S64x6x1, .f32⟩
  | 18 => ⟨S64x6, .f32⟩
  | 19 => ⟨S_, .f32⟩
  | 20 => ⟨S64, .f32⟩
  | 21 => ⟨S64x6x1, .f32⟩
  | 22 => ⟨S64x6, .f32⟩
  | 23 => ⟨S_, .f32⟩
  | 24 => ⟨S64, .f32⟩
  | 25 => ⟨S64x6x1, .f32⟩
  | 26 => ⟨S64x6, .f32⟩
  | 27 => ⟨S_, .f32⟩
  | 28 => ⟨S64, .f32⟩
  | 29 => ⟨S64, .f32⟩
  | 30 => ⟨S64, .f32⟩
  | 31 => ⟨S_, .f32⟩
  | 32 => ⟨S64, .f32⟩
  | 33 => ⟨S64, .f32⟩
  | 34 => ⟨S64, .f32⟩
  | 35 => ⟨S_, .f32⟩
  | 36 => ⟨S64, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S_, .f32⟩
  | 44 => ⟨S64, .f32⟩
  | 45 => ⟨S64, .f32⟩
  | 46 => ⟨S64, .f32⟩
  | 47 => ⟨S_, .i32⟩
  | 48 => ⟨S6, .i32⟩
  | 49 => ⟨S6, .i32⟩
  | 50 => ⟨S6, .i32⟩
  | 51 => ⟨S6x1, .i32⟩
  | 52 => ⟨S64x6x2, .f32⟩
  | 53 => ⟨S64x6x1, .f32⟩
  | 54 => ⟨S64x6, .f32⟩
  | 55 => ⟨S_, .f32⟩
  | 56 => ⟨S64, .f32⟩
  | 57 => ⟨S64x6x1, .f32⟩
  | 58 => ⟨S64x6, .f32⟩
  | 59 => ⟨S_, .f32⟩
  | 60 => ⟨S64, .f32⟩
  | 61 => ⟨S64x6x1, .f32⟩
  | 62 => ⟨S64x6, .f32⟩
  | 63 => ⟨S_, .f32⟩
  | 64 => ⟨S64, .f32⟩
  | 65 => ⟨S64x6x1, .f32⟩
  | 66 => ⟨S64x6, .f32⟩
  | 67 => ⟨S_, .f32⟩
  | 68 => ⟨S64, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S_, .f32⟩
  | 88 => ⟨S_, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S_, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S_, .f32⟩
  | 104 => ⟨S_, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S_, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S64, .f32⟩
  | 120 => ⟨S_, .f32⟩
  | 121 => ⟨S64, .f32⟩
  | 122 => ⟨S64, .i1⟩
  | 123 => ⟨S64, .f32⟩
  | 124 => ⟨S_, .f32⟩
  | 125 => ⟨S64, .f32⟩
  | 126 => ⟨S64, .i1⟩
  | 127 => ⟨S64, .i1⟩
  | _ => ⟨S64x3x512x512, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S32, .f32⟩
  | 37 => ⟨S_, .f32⟩
  | 38 => ⟨S32, .f32⟩
  | 39 => ⟨S32, .f32⟩
  | 40 => ⟨S64x1, .f32⟩
  | 41 => ⟨S64, .f32⟩
  | 42 => ⟨S64x1, .f32⟩
  | 43 => ⟨S1x32, .f32⟩
  | 44 => ⟨S64x32, .f32⟩
  | 45 => ⟨S64x32, .f32⟩
  | 46 => ⟨S64x32, .f32⟩
  | 47 => ⟨S64x32, .f32⟩
  | 48 => ⟨S64x32, .f32⟩
  | 49 => ⟨S64x1, .f32⟩
  | 50 => ⟨S64, .f32⟩
  | 51 => ⟨S64x1, .f32⟩
  | 52 => ⟨S1x32, .f32⟩
  | 53 => ⟨S64x32, .f32⟩
  | 54 => ⟨S64x32, .f32⟩
  | 55 => ⟨S64x32, .f32⟩
  | 56 => ⟨S64x32, .f32⟩
  | 57 => ⟨S64x32, .f32⟩
  | 58 => ⟨S64x1x32, .f32⟩
  | 59 => ⟨S64x32x32, .f32⟩
  | 60 => ⟨S64x32x1, .f32⟩
  | 61 => ⟨S64x32x32, .f32⟩
  | 62 => ⟨S64x1x1, .i1⟩
  | 63 => ⟨S_, .f32⟩
  | 64 => ⟨S64x32x32, .i1⟩
  | 65 => ⟨S64x32x32, .f32⟩
  | 66 => ⟨S64x32x32, .f32⟩
  | 67 => ⟨S64x1x1, .i1⟩
  | 68 => ⟨S_, .f32⟩
  | 69 => ⟨S64x32x32, .i1⟩
  | 70 => ⟨S64x32x32, .f32⟩
  | 71 => ⟨S64x32x32, .f32⟩
  | 72 => ⟨S_, .f32⟩
  | 73 => ⟨S64x32x32, .f32⟩
  | 74 => ⟨S64x32x32, .f32⟩
  | 75 => ⟨S_, .f32⟩
  | 76 => ⟨S64x32x32, .f32⟩
  | 77 => ⟨S64x32x32, .f32⟩
  | 78 => ⟨S_, .f32⟩
  | 79 => ⟨S64x32x32, .f32⟩
  | 80 => ⟨S64x32x32, .f32⟩
  | 81 => ⟨S_, .f32⟩
  | 82 => ⟨S_, .f32⟩
  | 83 => ⟨S_, .f32⟩
  | 84 => ⟨S64x32x32, .f32⟩
  | 85 => ⟨S64x32x32, .f32⟩
  | 86 => ⟨S_, .f32⟩
  | 87 => ⟨S64x32x32, .f32⟩
  | 88 => ⟨S64x32x32, .f32⟩
  | 89 => ⟨S_, .f32⟩
  | 90 => ⟨S64x32x32, .f32⟩
  | 91 => ⟨S64x32x32, .f32⟩
  | 92 => ⟨S_, .f32⟩
  | 93 => ⟨S64x32x32, .f32⟩
  | 94 => ⟨S64x32x32, .f32⟩
  | 95 => ⟨S_, .f32⟩
  | 96 => ⟨S64x32x32, .f32⟩
  | 97 => ⟨S64x32x32, .f32⟩
  | 98 => ⟨S_, .f32⟩
  | 99 => ⟨S_, .f32⟩
  | 100 => ⟨S_, .f32⟩
  | 101 => ⟨S64x32x32, .f32⟩
  | 102 => ⟨S64x32x32, .f32⟩
  | 103 => ⟨S_, .f32⟩
  | 104 => ⟨S64x32x32, .f32⟩
  | 105 => ⟨S64x32x32, .f32⟩
  | 106 => ⟨S64x32x32, .f32⟩
  | 107 => ⟨S64x32x32, .f32⟩
  | 108 => ⟨S64x32x32, .f32⟩
  | 109 => ⟨S64x32x32, .f32⟩
  | 110 => ⟨S_, .i32⟩
  | 111 => ⟨S_, .i32⟩
  | 112 => ⟨S_, .f32⟩
  | 113 => ⟨S64x32x32, .f32⟩
  | 114 => ⟨S64x32x32, .f32⟩
  | 115 => ⟨S_, .f32⟩
  | 116 => ⟨S64x32x32, .f32⟩
  | 117 => ⟨S64x32x32, .f32⟩
  | 118 => ⟨S64x32x32, .i32⟩
  | 119 => ⟨S_, .f32⟩
  | 120 => ⟨S64x32x32, .f32⟩
  | 121 => ⟨S64x32x32, .f32⟩
  | 122 => ⟨S_, .i32⟩
  | 123 => ⟨S_, .i32⟩
  | 124 => ⟨S_, .f32⟩
  | 125 => ⟨S64x32x32, .f32⟩
  | 126 => ⟨S64x32x32, .f32⟩
  | 127 => ⟨S_, .f32⟩
  | _ => ⟨S64x3x512x512, .f32⟩

abbrev hbmTy0_2 (i : Nat) : BufTy := match i % 128 with
  | 0 => ⟨S64x32x32, .f32⟩
  | 1 => ⟨S64x32x32, .f32⟩
  | 2 => ⟨S64x32x32, .i32⟩
  | 3 => ⟨S_, .i32⟩
  | 4 => ⟨S_, .i32⟩
  | 5 => ⟨S_, .f32⟩
  | 6 => ⟨S64x32x32, .f32⟩
  | 7 => ⟨S64x32x32, .f32⟩
  | 8 => ⟨S_, .f32⟩
  | 9 => ⟨S64x32x32, .f32⟩
  | 10 => ⟨S64x32x32, .f32⟩
  | 11 => ⟨S64x32x32, .i32⟩
  | 12 => ⟨S_, .f32⟩
  | 13 => ⟨S64x32x32, .f32⟩
  | 14 => ⟨S64x32x32, .f32⟩
  | 15 => ⟨S_, .i32⟩
  | 16 => ⟨S_, .i32⟩
  | 17 => ⟨S_, .f32⟩
  | 18 => ⟨S64x32x32, .f32⟩
  | 19 => ⟨S64x32x32, .f32⟩
  | 20 => ⟨S_, .f32⟩
  | 21 => ⟨S64x32x32, .f32⟩
  | 22 => ⟨S64x32x32, .f32⟩
  | 23 => ⟨S64x32x32, .i32⟩
  | 24 => ⟨S_, .i32⟩
  | 25 => ⟨S64x32x32, .i32⟩
  | 26 => ⟨S64x32x32, .i1⟩
  | 27 => ⟨S_, .i32⟩
  | 28 => ⟨S64x32x32, .i32⟩
  | 29 => ⟨S64x32x32, .i32⟩
  | 30 => ⟨S64x32x32, .i32⟩
  | 31 => ⟨S_, .i32⟩
  | 32 => ⟨S64x32x32, .i32⟩
  | 33 => ⟨S64x32x32, .i1⟩
  | 34 => ⟨S_, .i32⟩
  | 35 => ⟨S64x32x32, .i32⟩
  | 36 => ⟨S64x32x32, .i32⟩
  | 37 => ⟨S64x32x32, .i32⟩
  | 38 => ⟨S64x32x32x1, .i32⟩
  | 39 => ⟨S64x32x32x1, .i32⟩
  | 40 => ⟨S64x32x32x2, .i32⟩
  | 41 => ⟨S64x3x32x32, .f32⟩
  | 42 => ⟨S_, .i32⟩
  | 43 => ⟨S64x32x32, .i32⟩
  | 44 => ⟨S64x32x32, .i1⟩
  | 45 => ⟨S_, .i32⟩
  | 46 => ⟨S64x32x32, .i32⟩
  | 47 => ⟨S64x32x32, .i32⟩
  | 48 => ⟨S64x32x32, .i32⟩
  | 49 => ⟨S_, .i32⟩
  | 50 => ⟨S64x32x32, .i32⟩
  | 51 => ⟨S64x32x32, .i1⟩
  | 52 => ⟨S_, .i32⟩
  | 53 => ⟨S64x32x32, .i32⟩
  | 54 => ⟨S64x32x32, .i32⟩
  | 55 => ⟨S64x32x32, .i32⟩
  | 56 => ⟨S64x32x32x1, .i32⟩
  | 57 => ⟨S64x32x32x1, .i32⟩
  | 58 => ⟨S64x32x32x2, .i32⟩
  | 59 => ⟨S64x3x32x32, .f32⟩
  | 60 => ⟨S_, .i32⟩
  | 61 => ⟨S64x32x32, .i32⟩
  | 62 => ⟨S64x32x32, .i1⟩
  | 63 => ⟨S_, .i32⟩
  | 64 => ⟨S64x32x32, .i32⟩
  | 65 => ⟨S64x32x32, .i32⟩
  | 66 => ⟨S64x32x32, .i32⟩
  | 67 => ⟨S_, .i32⟩
  | 68 => ⟨S64x32x32, .i32⟩
  | 69 => ⟨S64x32x32, .i1⟩
  | 70 => ⟨S_, .i32⟩
  | 71 => ⟨S64x32x32, .i32⟩
  | 72 => ⟨S64x32x32, .i32⟩
  | 73 => ⟨S64x32x32, .i32⟩
  | 74 => ⟨S64x32x32x1, .i32⟩
  | 75 => ⟨S64x32x32x1, .i32⟩
  | 76 => ⟨S64x32x32x2, .i32⟩
  | 77 => ⟨S64x3x32x32, .f32⟩
  | 78 => ⟨S_, .i32⟩
  | 79 => ⟨S64x32x32, .i32⟩
  | 80 => ⟨S64x32x32, .i1⟩
  | 81 => ⟨S_, .i32⟩
  | 82 => ⟨S64x32x32, .i32⟩
  | 83 => ⟨S64x32x32, .i32⟩
  | 84 => ⟨S64x32x32, .i32⟩
  | 85 => ⟨S_, .i32⟩
  | 86 => ⟨S64x32x32, .i32⟩
  | 87 => ⟨S64x32x32, .i1⟩
  | 88 => ⟨S_, .i32⟩
  | 89 => ⟨S64x32x32, .i32⟩
  | 90 => ⟨S64x32x32, .i32⟩
  | 91 => ⟨S64x32x32, .i32⟩
  | 92 => ⟨S64x32x32x1, .i32⟩
  | 93 => ⟨S64x32x32x1, .i32⟩
  | 94 => ⟨S64x32x32x2, .i32⟩
  | 95 => ⟨S64x3x32x32, .f32⟩
  | 96 => ⟨S_, .f32⟩
  | 97 => ⟨S64x32x32, .f32⟩
  | 98 => ⟨S64x32x32, .f32⟩
  | 99 => ⟨S64x1x32x32, .f32⟩
  | 100 => ⟨S64x3x32x32, .f32⟩
  | 101 => ⟨S64x3x32x32, .f32⟩
  | 102 => ⟨S_, .f32⟩
  | 103 => ⟨S64x32x32, .f32⟩
  | 104 => ⟨S64x32x32, .f32⟩
  | 105 => ⟨S64x1x32x32, .f32⟩
  | 106 => ⟨S64x3x32x32, .f32⟩
  | 107 => ⟨S64x3x32x32, .f32⟩
  | 108 => ⟨S64x1x32x32, .f32⟩
  | 109 => ⟨S64x3x32x32, .f32⟩
  | 110 => ⟨S64x3x32x32, .f32⟩
  | 111 => ⟨S_, .f32⟩
  | 112 => ⟨S64x32x32, .f32⟩
  | 113 => ⟨S64x32x32, .f32⟩
  | 114 => ⟨S64x1x32x32, .f32⟩
  | 115 => ⟨S64x3x32x32, .f32⟩
  | 116 => ⟨S64x3x32x32, .f32⟩
  | 117 => ⟨S64x3x32x32, .f32⟩
  | 118 => ⟨S_, .f32⟩
  | 119 => ⟨S64x32x32, .f32⟩
  | 120 => ⟨S64x32x32, .f32⟩
  | 121 => ⟨S64x1x32x32, .f32⟩
  | 122 => ⟨S64x3x32x32, .f32⟩
  | 123 => ⟨S64x3x32x32, .f32⟩
  | 124 => ⟨S64x1x32x32, .f32⟩
  | 125 => ⟨S64x3x32x32, .f32⟩
  | 126 => ⟨S64x3x32x32, .f32⟩
  | 127 => ⟨S64x3x32x32, .f32⟩
  | _ => ⟨S64x3x512x512, .f32⟩

abbrev hbmTy0_3 (i : Nat) : BufTy := match i % 128 with
  | 0 => ⟨S64x1x32x32, .f32⟩
  | 1 => ⟨S64x3x32x32, .f32⟩
  | 2 => ⟨S64x3x32x32, .f32⟩
  | 3 => ⟨S64x1x32x32, .f32⟩
  | 4 => ⟨S64x3x32x32, .f32⟩
  | 5 => ⟨S64x3x32x32, .f32⟩
  | 6 => ⟨S64x3x32x32, .f32⟩
  | 7 => ⟨S_, .f32⟩
  | 8 => ⟨S_, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S_, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S_, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S_, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S_, .f32⟩
  | 41 => ⟨S64, .f32⟩
  | 42 => ⟨S64, .i1⟩
  | 43 => ⟨S64, .f32⟩
  | 44 => ⟨S_, .f32⟩
  | 45 => ⟨S64, .f32⟩
  | 46 => ⟨S64, .i1⟩
  | 47 => ⟨S64, .i1⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S32, .f32⟩
  | 85 => ⟨S_, .f32⟩
  | 86 => ⟨S32, .f32⟩
  | 87 => ⟨S32, .f32⟩
  | 88 => ⟨S64x1, .f32⟩
  | 89 => ⟨S64, .f32⟩
  | 90 => ⟨S64x1, .f32⟩
  | 91 => ⟨S1x32, .f32⟩
  | 92 => ⟨S64x32, .f32⟩
  | 93 => ⟨S64x32, .f32⟩
  | 94 => ⟨S64x32, .f32⟩
  | 95 => ⟨S64x32, .f32⟩
  | 96 => ⟨S64x32, .f32⟩
  | 97 => ⟨S64x1, .f32⟩
  | 98 => ⟨S64, .f32⟩
  | 99 => ⟨S64x1, .f32⟩
  | 100 => ⟨S1x32, .f32⟩
  | 101 => ⟨S64x32, .f32⟩
  | 102 => ⟨S64x32, .f32⟩
  | 103 => ⟨S64x32, .f32⟩
  | 104 => ⟨S64x32, .f32⟩
  | 105 => ⟨S64x32, .f32⟩
  | 106 => ⟨S64x1x32, .f32⟩
  | 107 => ⟨S64x32x32, .f32⟩
  | 108 => ⟨S64x32x1, .f32⟩
  | 109 => ⟨S64x32x32, .f32⟩
  | 110 => ⟨S64x1x1, .i1⟩
  | 111 => ⟨S_, .f32⟩
  | 112 => ⟨S64x32x32, .i1⟩
  | 113 => ⟨S64x32x32, .f32⟩
  | 114 => ⟨S64x32x32, .f32⟩
  | 115 => ⟨S64x1x1, .i1⟩
  | 116 => ⟨S_, .f32⟩
  | 117 => ⟨S64x32x32, .i1⟩
  | 118 => ⟨S64x32x32, .f32⟩
  | 119 => ⟨S64x32x32, .f32⟩
  | 120 => ⟨S_, .f32⟩
  | 121 => ⟨S64x32x32, .f32⟩
  | 122 => ⟨S64x32x32, .f32⟩
  | 123 => ⟨S_, .f32⟩
  | 124 => ⟨S64x32x32, .f32⟩
  | 125 => ⟨S64x32x32, .f32⟩
  | 126 => ⟨S_, .f32⟩
  | 127 => ⟨S64x32x32, .f32⟩
  | _ => ⟨S64x3x512x512, .f32⟩

abbrev hbmTy0_4 (i : Nat) : BufTy := match i % 128 with
  | 0 => ⟨S64x32x32, .f32⟩
  | 1 => ⟨S_, .f32⟩
  | 2 => ⟨S_, .f32⟩
  | 3 => ⟨S_, .f32⟩
  | 4 => ⟨S64x32x32, .f32⟩
  | 5 => ⟨S64x32x32, .f32⟩
  | 6 => ⟨S_, .f32⟩
  | 7 => ⟨S64x32x32, .f32⟩
  | 8 => ⟨S64x32x32, .f32⟩
  | 9 => ⟨S_, .f32⟩
  | 10 => ⟨S64x32x32, .f32⟩
  | 11 => ⟨S64x32x32, .f32⟩
  | 12 => ⟨S_, .f32⟩
  | 13 => ⟨S64x32x32, .f32⟩
  | 14 => ⟨S64x32x32, .f32⟩
  | 15 => ⟨S_, .f32⟩
  | 16 => ⟨S64x32x32, .f32⟩
  | 17 => ⟨S64x32x32, .f32⟩
  | 18 => ⟨S_, .f32⟩
  | 19 => ⟨S_, .f32⟩
  | 20 => ⟨S_, .f32⟩
  | 21 => ⟨S64x32x32, .f32⟩
  | 22 => ⟨S64x32x32, .f32⟩
  | 23 => ⟨S_, .f32⟩
  | 24 => ⟨S64x32x32, .f32⟩
  | 25 => ⟨S64x32x32, .f32⟩
  | 26 => ⟨S64x32x32, .f32⟩
  | 27 => ⟨S64x32x32, .f32⟩
  | 28 => ⟨S64x32x32, .f32⟩
  | 29 => ⟨S64x32x32, .f32⟩
  | 30 => ⟨S_, .i32⟩
  | 31 => ⟨S_, .i32⟩
  | 32 => ⟨S_, .f32⟩
  | 33 => ⟨S64x32x32, .f32⟩
  | 34 => ⟨S64x32x32, .f32⟩
  | 35 => ⟨S_, .f32⟩
  | 36 => ⟨S64x32x32, .f32⟩
  | 37 => ⟨S64x32x32, .f32⟩
  | 38 => ⟨S64x32x32, .i32⟩
  | 39 => ⟨S_, .f32⟩
  | 40 => ⟨S64x32x32, .f32⟩
  | 41 => ⟨S64x32x32, .f32⟩
  | 42 => ⟨S_, .i32⟩
  | 43 => ⟨S_, .i32⟩
  | 44 => ⟨S_, .f32⟩
  | 45 => ⟨S64x32x32, .f32⟩
  | 46 => ⟨S64x32x32, .f32⟩
  | 47 => ⟨S_, .f32⟩
  | 48 => ⟨S64x32x32, .f32⟩
  | 49 => ⟨S64x32x32, .f32⟩
  | 50 => ⟨S64x32x32, .i32⟩
  | 51 => ⟨S_, .i32⟩
  | 52 => ⟨S_, .i32⟩
  | 53 => ⟨S_, .f32⟩
  | 54 => ⟨S64x32x32, .f32⟩
  | 55 => ⟨S64x32x32, .f32⟩
  | 56 => ⟨S_, .f32⟩
  | 57 => ⟨S64x32x32, .f32⟩
  | 58 => ⟨S64x32x32, .f32⟩
  | 59 => ⟨S64x32x32, .i32⟩
  | 60 => ⟨S_, .f32⟩
  | 61 => ⟨S64x32x32, .f32⟩
  | 62 => ⟨S64x32x32, .f32⟩
  | 63 => ⟨S_, .i32⟩
  | 64 => ⟨S_, .i32⟩
  | 65 => ⟨S_, .f32⟩
  | 66 => ⟨S64x32x32, .f32⟩
  | 67 => ⟨S64x32x32, .f32⟩
  | 68 => ⟨S_, .f32⟩
  | 69 => ⟨S64x32x32, .f32⟩
  | 70 => ⟨S64x32x32, .f32⟩
  | 71 => ⟨S64x32x32, .i32⟩
  | 72 => ⟨S_, .i32⟩
  | 73 => ⟨S64x32x32, .i32⟩
  | 74 => ⟨S64x32x32, .i1⟩
  | 75 => ⟨S_, .i32⟩
  | 76 => ⟨S64x32x32, .i32⟩
  | 77 => ⟨S64x32x32, .i32⟩
  | 78 => ⟨S64x32x32, .i32⟩
  | 79 => ⟨S_, .i32⟩
  | 80 => ⟨S64x32x32, .i32⟩
  | 81 => ⟨S64x32x32, .i1⟩
  | 82 => ⟨S_, .i32⟩
  | 83 => ⟨S64x32x32, .i32⟩
  | 84 => ⟨S64x32x32, .i32⟩
  | 85 => ⟨S64x32x32, .i32⟩
  | 86 => ⟨S64x32x32x1, .i32⟩
  | 87 => ⟨S64x32x32x1, .i32⟩
  | 88 => ⟨S64x32x32x2, .i32⟩
  | 89 => ⟨S64x3x32x32, .f32⟩
  | 90 => ⟨S_, .i32⟩
  | 91 => ⟨S64x32x32, .i32⟩
  | 92 => ⟨S64x32x32, .i1⟩
  | 93 => ⟨S_, .i32⟩
  | 94 => ⟨S64x32x32, .i32⟩
  | 95 => ⟨S64x32x32, .i32⟩
  | 96 => ⟨S64x32x32, .i32⟩
  | 97 => ⟨S_, .i32⟩
  | 98 => ⟨S64x32x32, .i32⟩
  | 99 => ⟨S64x32x32, .i1⟩
  | 100 => ⟨S_, .i32⟩
  | 101 => ⟨S64x32x32, .i32⟩
  | 102 => ⟨S64x32x32, .i32⟩
  | 103 => ⟨S64x32x32, .i32⟩
  | 104 => ⟨S64x32x32x1, .i32⟩
  | 105 => ⟨S64x32x32x1, .i32⟩
  | 106 => ⟨S64x32x32x2, .i32⟩
  | 107 => ⟨S64x3x32x32, .f32⟩
  | 108 => ⟨S_, .i32⟩
  | 109 => ⟨S64x32x32, .i32⟩
  | 110 => ⟨S64x32x32, .i1⟩
  | 111 => ⟨S_, .i32⟩
  | 112 => ⟨S64x32x32, .i32⟩
  | 113 => ⟨S64x32x32, .i32⟩
  | 114 => ⟨S64x32x32, .i32⟩
  | 115 => ⟨S_, .i32⟩
  | 116 => ⟨S64x32x32, .i32⟩
  | 117 => ⟨S64x32x32, .i1⟩
  | 118 => ⟨S_, .i32⟩
  | 119 => ⟨S64x32x32, .i32⟩
  | 120 => ⟨S64x32x32, .i32⟩
  | 121 => ⟨S64x32x32, .i32⟩
  | 122 => ⟨S64x32x32x1, .i32⟩
  | 123 => ⟨S64x32x32x1, .i32⟩
  | 124 => ⟨S64x32x32x2, .i32⟩
  | 125 => ⟨S64x3x32x32, .f32⟩
  | 126 => ⟨S_, .i32⟩
  | 127 => ⟨S64x32x32, .i32⟩
  | _ => ⟨S64x3x512x512, .f32⟩

abbrev hbmTy0_5 (i : Nat) : BufTy := match i % 128 with
  | 0 => ⟨S64x32x32, .i1⟩
  | 1 => ⟨S_, .i32⟩
  | 2 => ⟨S64x32x32, .i32⟩
  | 3 => ⟨S64x32x32, .i32⟩
  | 4 => ⟨S64x32x32, .i32⟩
  | 5 => ⟨S_, .i32⟩
  | 6 => ⟨S64x32x32, .i32⟩
  | 7 => ⟨S64x32x32, .i1⟩
  | 8 => ⟨S_, .i32⟩
  | 9 => ⟨S64x32x32, .i32⟩
  | 10 => ⟨S64x32x32, .i32⟩
  | 11 => ⟨S64x32x32, .i32⟩
  | 12 => ⟨S64x32x32x1, .i32⟩
  | 13 => ⟨S64x32x32x1, .i32⟩
  | 14 => ⟨S64x32x32x2, .i32⟩
  | 15 => ⟨S64x3x32x32, .f32⟩
  | 16 => ⟨S_, .f32⟩
  | 17 => ⟨S64x32x32, .f32⟩
  | 18 => ⟨S64x32x32, .f32⟩
  | 19 => ⟨S64x1x32x32, .f32⟩
  | 20 => ⟨S64x3x32x32, .f32⟩
  | 21 => ⟨S64x3x32x32, .f32⟩
  | 22 => ⟨S_, .f32⟩
  | 23 => ⟨S64x32x32, .f32⟩
  | 24 => ⟨S64x32x32, .f32⟩
  | 25 => ⟨S64x1x32x32, .f32⟩
  | 26 => ⟨S64x3x32x32, .f32⟩
  | 27 => ⟨S64x3x32x32, .f32⟩
  | 28 => ⟨S64x1x32x32, .f32⟩
  | 29 => ⟨S64x3x32x32, .f32⟩
  | 30 => ⟨S64x3x32x32, .f32⟩
  | 31 => ⟨S_, .f32⟩
  | 32 => ⟨S64x32x32, .f32⟩
  | 33 => ⟨S64x32x32, .f32⟩
  | 34 => ⟨S64x1x32x32, .f32⟩
  | 35 => ⟨S64x3x32x32, .f32⟩
  | 36 => ⟨S64x3x32x32, .f32⟩
  | 37 => ⟨S64x3x32x32, .f32⟩
  | 38 => ⟨S_, .f32⟩
  | 39 => ⟨S64x32x32, .f32⟩
  | 40 => ⟨S64x32x32, .f32⟩
  | 41 => ⟨S64x1x32x32, .f32⟩
  | 42 => ⟨S64x3x32x32, .f32⟩
  | 43 => ⟨S64x3x32x32, .f32⟩
  | 44 => ⟨S64x1x32x32, .f32⟩
  | 45 => ⟨S64x3x32x32, .f32⟩
  | 46 => ⟨S64x3x32x32, .f32⟩
  | 47 => ⟨S64x3x32x32, .f32⟩
  | 48 => ⟨S64x1x32x32, .f32⟩
  | 49 => ⟨S64x3x32x32, .f32⟩
  | 50 => ⟨S64x3x32x32, .f32⟩
  | 51 => ⟨S64x1x32x32, .f32⟩
  | 52 => ⟨S64x3x32x32, .f32⟩
  | 53 => ⟨S64x3x32x32, .f32⟩
  | 54 => ⟨S64x3x32x32, .f32⟩
  | 55 => ⟨S_, .f32⟩
  | 56 => ⟨S_, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S_, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S_, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S_, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S64, .f32⟩
  | 88 => ⟨S_, .f32⟩
  | 89 => ⟨S64, .f32⟩
  | 90 => ⟨S64, .i1⟩
  | 91 => ⟨S64, .f32⟩
  | 92 => ⟨S_, .f32⟩
  | 93 => ⟨S64, .f32⟩
  | 94 => ⟨S64, .i1⟩
  | 95 => ⟨S64, .i1⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S64x3x512x512, .f32⟩

abbrev hbmTy0_6 (i : Nat) : BufTy := match i % 128 with
  | 0 => ⟨S64, .f32⟩
  | 1 => ⟨S_, .f32⟩
  | 2 => ⟨S64, .f32⟩
  | 3 => ⟨S64, .f32⟩
  | 4 => ⟨S32, .f32⟩
  | 5 => ⟨S_, .f32⟩
  | 6 => ⟨S32, .f32⟩
  | 7 => ⟨S32, .f32⟩
  | 8 => ⟨S64x1, .f32⟩
  | 9 => ⟨S64, .f32⟩
  | 10 => ⟨S64x1, .f32⟩
  | 11 => ⟨S1x32, .f32⟩
  | 12 => ⟨S64x32, .f32⟩
  | 13 => ⟨S64x32, .f32⟩
  | 14 => ⟨S64x32, .f32⟩
  | 15 => ⟨S64x32, .f32⟩
  | 16 => ⟨S64x32, .f32⟩
  | 17 => ⟨S64x1, .f32⟩
  | 18 => ⟨S64, .f32⟩
  | 19 => ⟨S64x1, .f32⟩
  | 20 => ⟨S1x32, .f32⟩
  | 21 => ⟨S64x32, .f32⟩
  | 22 => ⟨S64x32, .f32⟩
  | 23 => ⟨S64x32, .f32⟩
  | 24 => ⟨S64x32, .f32⟩
  | 25 => ⟨S64x32, .f32⟩
  | 26 => ⟨S64x1x32, .f32⟩
  | 27 => ⟨S64x32x32, .f32⟩
  | 28 => ⟨S64x32x1, .f32⟩
  | 29 => ⟨S64x32x32, .f32⟩
  | 30 => ⟨S64x1x1, .i1⟩
  | 31 => ⟨S_, .f32⟩
  | 32 => ⟨S64x32x32, .i1⟩
  | 33 => ⟨S64x32x32, .f32⟩
  | 34 => ⟨S64x32x32, .f32⟩
  | 35 => ⟨S64x1x1, .i1⟩
  | 36 => ⟨S_, .f32⟩
  | 37 => ⟨S64x32x32, .i1⟩
  | 38 => ⟨S64x32x32, .f32⟩
  | 39 => ⟨S64x32x32, .f32⟩
  | 40 => ⟨S_, .f32⟩
  | 41 => ⟨S64x32x32, .f32⟩
  | 42 => ⟨S64x32x32, .f32⟩
  | 43 => ⟨S_, .f32⟩
  | 44 => ⟨S64x32x32, .f32⟩
  | 45 => ⟨S64x32x32, .f32⟩
  | 46 => ⟨S_, .f32⟩
  | 47 => ⟨S64x32x32, .f32⟩
  | 48 => ⟨S64x32x32, .f32⟩
  | 49 => ⟨S_, .f32⟩
  | 50 => ⟨S_, .f32⟩
  | 51 => ⟨S_, .f32⟩
  | 52 => ⟨S64x32x32, .f32⟩
  | 53 => ⟨S64x32x32, .f32⟩
  | 54 => ⟨S_, .f32⟩
  | 55 => ⟨S64x32x32, .f32⟩
  | 56 => ⟨S64x32x32, .f32⟩
  | 57 => ⟨S_, .f32⟩
  | 58 => ⟨S64x32x32, .f32⟩
  | 59 => ⟨S64x32x32, .f32⟩
  | 60 => ⟨S_, .f32⟩
  | 61 => ⟨S64x32x32, .f32⟩
  | 62 => ⟨S64x32x32, .f32⟩
  | 63 => ⟨S_, .f32⟩
  | 64 => ⟨S64x32x32, .f32⟩
  | 65 => ⟨S64x32x32, .f32⟩
  | 66 => ⟨S_, .f32⟩
  | 67 => ⟨S_, .f32⟩
  | 68 => ⟨S_, .f32⟩
  | 69 => ⟨S64x32x32, .f32⟩
  | 70 => ⟨S64x32x32, .f32⟩
  | 71 => ⟨S_, .f32⟩
  | 72 => ⟨S64x32x32, .f32⟩
  | 73 => ⟨S64x32x32, .f32⟩
  | 74 => ⟨S64x32x32, .f32⟩
  | 75 => ⟨S64x32x32, .f32⟩
  | 76 => ⟨S64x32x32, .f32⟩
  | 77 => ⟨S64x32x32, .f32⟩
  | 78 => ⟨S_, .i32⟩
  | 79 => ⟨S_, .i32⟩
  | 80 => ⟨S_, .f32⟩
  | 81 => ⟨S64x32x32, .f32⟩
  | 82 => ⟨S64x32x32, .f32⟩
  | 83 => ⟨S_, .f32⟩
  | 84 => ⟨S64x32x32, .f32⟩
  | 85 => ⟨S64x32x32, .f32⟩
  | 86 => ⟨S64x32x32, .i32⟩
  | 87 => ⟨S_, .f32⟩
  | 88 => ⟨S64x32x32, .f32⟩
  | 89 => ⟨S64x32x32, .f32⟩
  | 90 => ⟨S_, .i32⟩
  | 91 => ⟨S_, .i32⟩
  | 92 => ⟨S_, .f32⟩
  | 93 => ⟨S64x32x32, .f32⟩
  | 94 => ⟨S64x32x32, .f32⟩
  | 95 => ⟨S_, .f32⟩
  | 96 => ⟨S64x32x32, .f32⟩
  | 97 => ⟨S64x32x32, .f32⟩
  | 98 => ⟨S64x32x32, .i32⟩
  | 99 => ⟨S_, .i32⟩
  | 100 => ⟨S_, .i32⟩
  | 101 => ⟨S_, .f32⟩
  | 102 => ⟨S64x32x32, .f32⟩
  | 103 => ⟨S64x32x32, .f32⟩
  | 104 => ⟨S_, .f32⟩
  | 105 => ⟨S64x32x32, .f32⟩
  | 106 => ⟨S64x32x32, .f32⟩
  | 107 => ⟨S64x32x32, .i32⟩
  | 108 => ⟨S_, .f32⟩
  | 109 => ⟨S64x32x32, .f32⟩
  | 110 => ⟨S64x32x32, .f32⟩
  | 111 => ⟨S_, .i32⟩
  | 112 => ⟨S_, .i32⟩
  | 113 => ⟨S_, .f32⟩
  | 114 => ⟨S64x32x32, .f32⟩
  | 115 => ⟨S64x32x32, .f32⟩
  | 116 => ⟨S_, .f32⟩
  | 117 => ⟨S64x32x32, .f32⟩
  | 118 => ⟨S64x32x32, .f32⟩
  | 119 => ⟨S64x32x32, .i32⟩
  | 120 => ⟨S_, .i32⟩
  | 121 => ⟨S64x32x32, .i32⟩
  | 122 => ⟨S64x32x32, .i1⟩
  | 123 => ⟨S_, .i32⟩
  | 124 => ⟨S64x32x32, .i32⟩
  | 125 => ⟨S64x32x32, .i32⟩
  | 126 => ⟨S64x32x32, .i32⟩
  | 127 => ⟨S_, .i32⟩
  | _ => ⟨S64x3x512x512, .f32⟩

abbrev hbmTy0_7 (i : Nat) : BufTy := match i % 128 with
  | 0 => ⟨S64x32x32, .i32⟩
  | 1 => ⟨S64x32x32, .i1⟩
  | 2 => ⟨S_, .i32⟩
  | 3 => ⟨S64x32x32, .i32⟩
  | 4 => ⟨S64x32x32, .i32⟩
  | 5 => ⟨S64x32x32, .i32⟩
  | 6 => ⟨S64x32x32x1, .i32⟩
  | 7 => ⟨S64x32x32x1, .i32⟩
  | 8 => ⟨S64x32x32x2, .i32⟩
  | 9 => ⟨S64x3x32x32, .f32⟩
  | 10 => ⟨S_, .i32⟩
  | 11 => ⟨S64x32x32, .i32⟩
  | 12 => ⟨S64x32x32, .i1⟩
  | 13 => ⟨S_, .i32⟩
  | 14 => ⟨S64x32x32, .i32⟩
  | 15 => ⟨S64x32x32, .i32⟩
  | 16 => ⟨S64x32x32, .i32⟩
  | 17 => ⟨S_, .i32⟩
  | 18 => ⟨S64x32x32, .i32⟩
  | 19 => ⟨S64x32x32, .i1⟩
  | 20 => ⟨S_, .i32⟩
  | 21 => ⟨S64x32x32, .i32⟩
  | 22 => ⟨S64x32x32, .i32⟩
  | 23 => ⟨S64x32x32, .i32⟩
  | 24 => ⟨S64x32x32x1, .i32⟩
  | 25 => ⟨S64x32x32x1, .i32⟩
  | 26 => ⟨S64x32x32x2, .i32⟩
  | 27 => ⟨S64x3x32x32, .f32⟩
  | 28 => ⟨S_, .i32⟩
  | 29 => ⟨S64x32x32, .i32⟩
  | 30 => ⟨S64x32x32, .i1⟩
  | 31 => ⟨S_, .i32⟩
  | 32 => ⟨S64x32x32, .i32⟩
  | 33 => ⟨S64x32x32, .i32⟩
  | 34 => ⟨S64x32x32, .i32⟩
  | 35 => ⟨S_, .i32⟩
  | 36 => ⟨S64x32x32, .i32⟩
  | 37 => ⟨S64x32x32, .i1⟩
  | 38 => ⟨S_, .i32⟩
  | 39 => ⟨S64x32x32, .i32⟩
  | 40 => ⟨S64x32x32, .i32⟩
  | 41 => ⟨S64x32x32, .i32⟩
  | 42 => ⟨S64x32x32x1, .i32⟩
  | 43 => ⟨S64x32x32x1, .i32⟩
  | 44 => ⟨S64x32x32x2, .i32⟩
  | 45 => ⟨S64x3x32x32, .f32⟩
  | 46 => ⟨S_, .i32⟩
  | 47 => ⟨S64x32x32, .i32⟩
  | 48 => ⟨S64x32x32, .i1⟩
  | 49 => ⟨S_, .i32⟩
  | 50 => ⟨S64x32x32, .i32⟩
  | 51 => ⟨S64x32x32, .i32⟩
  | 52 => ⟨S64x32x32, .i32⟩
  | 53 => ⟨S_, .i32⟩
  | 54 => ⟨S64x32x32, .i32⟩
  | 55 => ⟨S64x32x32, .i1⟩
  | 56 => ⟨S_, .i32⟩
  | 57 => ⟨S64x32x32, .i32⟩
  | 58 => ⟨S64x32x32, .i32⟩
  | 59 => ⟨S64x32x32, .i32⟩
  | 60 => ⟨S64x32x32x1, .i32⟩
  | 61 => ⟨S64x32x32x1, .i32⟩
  | 62 => ⟨S64x32x32x2, .i32⟩
  | 63 => ⟨S64x3x32x32, .f32⟩
  | 64 => ⟨S_, .f32⟩
  | 65 => ⟨S64x32x32, .f32⟩
  | 66 => ⟨S64x32x32, .f32⟩
  | 67 => ⟨S64x1x32x32, .f32⟩
  | 68 => ⟨S64x3x32x32, .f32⟩
  | 69 => ⟨S64x3x32x32, .f32⟩
  | 70 => ⟨S_, .f32⟩
  | 71 => ⟨S64x32x32, .f32⟩
  | 72 => ⟨S64x32x32, .f32⟩
  | 73 => ⟨S64x1x32x32, .f32⟩
  | 74 => ⟨S64x3x32x32, .f32⟩
  | 75 => ⟨S64x3x32x32, .f32⟩
  | 76 => ⟨S64x1x32x32, .f32⟩
  | 77 => ⟨S64x3x32x32, .f32⟩
  | 78 => ⟨S64x3x32x32, .f32⟩
  | 79 => ⟨S_, .f32⟩
  | 80 => ⟨S64x32x32, .f32⟩
  | 81 => ⟨S64x32x32, .f32⟩
  | 82 => ⟨S64x1x32x32, .f32⟩
  | 83 => ⟨S64x3x32x32, .f32⟩
  | 84 => ⟨S64x3x32x32, .f32⟩
  | 85 => ⟨S64x3x32x32, .f32⟩
  | 86 => ⟨S_, .f32⟩
  | 87 => ⟨S64x32x32, .f32⟩
  | 88 => ⟨S64x32x32, .f32⟩
  | 89 => ⟨S64x1x32x32, .f32⟩
  | 90 => ⟨S64x3x32x32, .f32⟩
  | 91 => ⟨S64x3x32x32, .f32⟩
  | 92 => ⟨S64x1x32x32, .f32⟩
  | 93 => ⟨S64x3x32x32, .f32⟩
  | 94 => ⟨S64x3x32x32, .f32⟩
  | 95 => ⟨S64x3x32x32, .f32⟩
  | 96 => ⟨S64x1x32x32, .f32⟩
  | 97 => ⟨S64x3x32x32, .f32⟩
  | 98 => ⟨S64x3x32x32, .f32⟩
  | 99 => ⟨S64x1x32x32, .f32⟩
  | 100 => ⟨S64x3x32x32, .f32⟩
  | 101 => ⟨S64x3x32x32, .f32⟩
  | 102 => ⟨S64x3x32x32, .f32⟩
  | 103 => ⟨S_, .f32⟩
  | 104 => ⟨S_, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S_, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S_, .f32⟩
  | 120 => ⟨S_, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S_, .f32⟩
  | _ => ⟨S64x3x512x512, .f32⟩

abbrev hbmTy0_8 (i : Nat) : BufTy := match i % 128 with
  | 0 => ⟨S_, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S_, .f32⟩
  | 9 => ⟨S64, .f32⟩
  | 10 => ⟨S64, .i1⟩
  | 11 => ⟨S64, .f32⟩
  | 12 => ⟨S_, .f32⟩
  | 13 => ⟨S64, .f32⟩
  | 14 => ⟨S64, .i1⟩
  | 15 => ⟨S64, .i1⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S32, .f32⟩
  | 53 => ⟨S_, .f32⟩
  | 54 => ⟨S32, .f32⟩
  | 55 => ⟨S32, .f32⟩
  | 56 => ⟨S64x1, .f32⟩
  | 57 => ⟨S64, .f32⟩
  | 58 => ⟨S64x1, .f32⟩
  | 59 => ⟨S1x32, .f32⟩
  | 60 => ⟨S64x32, .f32⟩
  | 61 => ⟨S64x32, .f32⟩
  | 62 => ⟨S64x32, .f32⟩
  | 63 => ⟨S64x32, .f32⟩
  | 64 => ⟨S64x32, .f32⟩
  | 65 => ⟨S64x1, .f32⟩
  | 66 => ⟨S64, .f32⟩
  | 67 => ⟨S64x1, .f32⟩
  | 68 => ⟨S1x32, .f32⟩
  | 69 => ⟨S64x32, .f32⟩
  | 70 => ⟨S64x32, .f32⟩
  | 71 => ⟨S64x32, .f32⟩
  | 72 => ⟨S64x32, .f32⟩
  | 73 => ⟨S64x32, .f32⟩
  | 74 => ⟨S64x1x32, .f32⟩
  | 75 => ⟨S64x32x32, .f32⟩
  | 76 => ⟨S64x32x1, .f32⟩
  | 77 => ⟨S64x32x32, .f32⟩
  | 78 => ⟨S64x1x1, .i1⟩
  | 79 => ⟨S_, .f32⟩
  | 80 => ⟨S64x32x32, .i1⟩
  | 81 => ⟨S64x32x32, .f32⟩
  | 82 => ⟨S64x32x32, .f32⟩
  | 83 => ⟨S64x1x1, .i1⟩
  | 84 => ⟨S_, .f32⟩
  | 85 => ⟨S64x32x32, .i1⟩
  | 86 => ⟨S64x32x32, .f32⟩
  | 87 => ⟨S64x32x32, .f32⟩
  | 88 => ⟨S_, .f32⟩
  | 89 => ⟨S64x32x32, .f32⟩
  | 90 => ⟨S64x32x32, .f32⟩
  | 91 => ⟨S_, .f32⟩
  | 92 => ⟨S64x32x32, .f32⟩
  | 93 => ⟨S64x32x32, .f32⟩
  | 94 => ⟨S_, .f32⟩
  | 95 => ⟨S64x32x32, .f32⟩
  | 96 => ⟨S64x32x32, .f32⟩
  | 97 => ⟨S_, .f32⟩
  | 98 => ⟨S_, .f32⟩
  | 99 => ⟨S_, .f32⟩
  | 100 => ⟨S64x32x32, .f32⟩
  | 101 => ⟨S64x32x32, .f32⟩
  | 102 => ⟨S_, .f32⟩
  | 103 => ⟨S64x32x32, .f32⟩
  | 104 => ⟨S64x32x32, .f32⟩
  | 105 => ⟨S_, .f32⟩
  | 106 => ⟨S64x32x32, .f32⟩
  | 107 => ⟨S64x32x32, .f32⟩
  | 108 => ⟨S_, .f32⟩
  | 109 => ⟨S64x32x32, .f32⟩
  | 110 => ⟨S64x32x32, .f32⟩
  | 111 => ⟨S_, .f32⟩
  | 112 => ⟨S64x32x32, .f32⟩
  | 113 => ⟨S64x32x32, .f32⟩
  | 114 => ⟨S_, .f32⟩
  | 115 => ⟨S_, .f32⟩
  | 116 => ⟨S_, .f32⟩
  | 117 => ⟨S64x32x32, .f32⟩
  | 118 => ⟨S64x32x32, .f32⟩
  | 119 => ⟨S_, .f32⟩
  | 120 => ⟨S64x32x32, .f32⟩
  | 121 => ⟨S64x32x32, .f32⟩
  | 122 => ⟨S64x32x32, .f32⟩
  | 123 => ⟨S64x32x32, .f32⟩
  | 124 => ⟨S64x32x32, .f32⟩
  | 125 => ⟨S64x32x32, .f32⟩
  | 126 => ⟨S_, .i32⟩
  | 127 => ⟨S_, .i32⟩
  | _ => ⟨S64x3x512x512, .f32⟩

abbrev hbmTy0_9 (i : Nat) : BufTy := match i % 128 with
  | 0 => ⟨S_, .f32⟩
  | 1 => ⟨S64x32x32, .f32⟩
  | 2 => ⟨S64x32x32, .f32⟩
  | 3 => ⟨S_, .f32⟩
  | 4 => ⟨S64x32x32, .f32⟩
  | 5 => ⟨S64x32x32, .f32⟩
  | 6 => ⟨S64x32x32, .i32⟩
  | 7 => ⟨S_, .f32⟩
  | 8 => ⟨S64x32x32, .f32⟩
  | 9 => ⟨S64x32x32, .f32⟩
  | 10 => ⟨S_, .i32⟩
  | 11 => ⟨S_, .i32⟩
  | 12 => ⟨S_, .f32⟩
  | 13 => ⟨S64x32x32, .f32⟩
  | 14 => ⟨S64x32x32, .f32⟩
  | 15 => ⟨S_, .f32⟩
  | 16 => ⟨S64x32x32, .f32⟩
  | 17 => ⟨S64x32x32, .f32⟩
  | 18 => ⟨S64x32x32, .i32⟩
  | 19 => ⟨S_, .i32⟩
  | 20 => ⟨S_, .i32⟩
  | 21 => ⟨S_, .f32⟩
  | 22 => ⟨S64x32x32, .f32⟩
  | 23 => ⟨S64x32x32, .f32⟩
  | 24 => ⟨S_, .f32⟩
  | 25 => ⟨S64x32x32, .f32⟩
  | 26 => ⟨S64x32x32, .f32⟩
  | 27 => ⟨S64x32x32, .i32⟩
  | 28 => ⟨S_, .f32⟩
  | 29 => ⟨S64x32x32, .f32⟩
  | 30 => ⟨S64x32x32, .f32⟩
  | 31 => ⟨S_, .i32⟩
  | 32 => ⟨S_, .i32⟩
  | 33 => ⟨S_, .f32⟩
  | 34 => ⟨S64x32x32, .f32⟩
  | 35 => ⟨S64x32x32, .f32⟩
  | 36 => ⟨S_, .f32⟩
  | 37 => ⟨S64x32x32, .f32⟩
  | 38 => ⟨S64x32x32, .f32⟩
  | 39 => ⟨S64x32x32, .i32⟩
  | 40 => ⟨S_, .i32⟩
  | 41 => ⟨S64x32x32, .i32⟩
  | 42 => ⟨S64x32x32, .i1⟩
  | 43 => ⟨S_, .i32⟩
  | 44 => ⟨S64x32x32, .i32⟩
  | 45 => ⟨S64x32x32, .i32⟩
  | 46 => ⟨S64x32x32, .i32⟩
  | 47 => ⟨S_, .i32⟩
  | 48 => ⟨S64x32x32, .i32⟩
  | 49 => ⟨S64x32x32, .i1⟩
  | 50 => ⟨S_, .i32⟩
  | 51 => ⟨S64x32x32, .i32⟩
  | 52 => ⟨S64x32x32, .i32⟩
  | 53 => ⟨S64x32x32, .i32⟩
  | 54 => ⟨S64x32x32x1, .i32⟩
  | 55 => ⟨S64x32x32x1, .i32⟩
  | 56 => ⟨S64x32x32x2, .i32⟩
  | 57 => ⟨S64x3x32x32, .f32⟩
  | 58 => ⟨S_, .i32⟩
  | 59 => ⟨S64x32x32, .i32⟩
  | 60 => ⟨S64x32x32, .i1⟩
  | 61 => ⟨S_, .i32⟩
  | 62 => ⟨S64x32x32, .i32⟩
  | 63 => ⟨S64x32x32, .i32⟩
  | 64 => ⟨S64x32x32, .i32⟩
  | 65 => ⟨S_, .i32⟩
  | 66 => ⟨S64x32x32, .i32⟩
  | 67 => ⟨S64x32x32, .i1⟩
  | 68 => ⟨S_, .i32⟩
  | 69 => ⟨S64x32x32, .i32⟩
  | 70 => ⟨S64x32x32, .i32⟩
  | 71 => ⟨S64x32x32, .i32⟩
  | 72 => ⟨S64x32x32x1, .i32⟩
  | 73 => ⟨S64x32x32x1, .i32⟩
  | 74 => ⟨S64x32x32x2, .i32⟩
  | 75 => ⟨S64x3x32x32, .f32⟩
  | 76 => ⟨S_, .i32⟩
  | 77 => ⟨S64x32x32, .i32⟩
  | 78 => ⟨S64x32x32, .i1⟩
  | 79 => ⟨S_, .i32⟩
  | 80 => ⟨S64x32x32, .i32⟩
  | 81 => ⟨S64x32x32, .i32⟩
  | 82 => ⟨S64x32x32, .i32⟩
  | 83 => ⟨S_, .i32⟩
  | 84 => ⟨S64x32x32, .i32⟩
  | 85 => ⟨S64x32x32, .i1⟩
  | 86 => ⟨S_, .i32⟩
  | 87 => ⟨S64x32x32, .i32⟩
  | 88 => ⟨S64x32x32, .i32⟩
  | 89 => ⟨S64x32x32, .i32⟩
  | 90 => ⟨S64x32x32x1, .i32⟩
  | 91 => ⟨S64x32x32x1, .i32⟩
  | 92 => ⟨S64x32x32x2, .i32⟩
  | 93 => ⟨S64x3x32x32, .f32⟩
  | 94 => ⟨S_, .i32⟩
  | 95 => ⟨S64x32x32, .i32⟩
  | 96 => ⟨S64x32x32, .i1⟩
  | 97 => ⟨S_, .i32⟩
  | 98 => ⟨S64x32x32, .i32⟩
  | 99 => ⟨S64x32x32, .i32⟩
  | 100 => ⟨S64x32x32, .i32⟩
  | 101 => ⟨S_, .i32⟩
  | 102 => ⟨S64x32x32, .i32⟩
  | 103 => ⟨S64x32x32, .i1⟩
  | 104 => ⟨S_, .i32⟩
  | 105 => ⟨S64x32x32, .i32⟩
  | 106 => ⟨S64x32x32, .i32⟩
  | 107 => ⟨S64x32x32, .i32⟩
  | 108 => ⟨S64x32x32x1, .i32⟩
  | 109 => ⟨S64x32x32x1, .i32⟩
  | 110 => ⟨S64x32x32x2, .i32⟩
  | 111 => ⟨S64x3x32x32, .f32⟩
  | 112 => ⟨S_, .f32⟩
  | 113 => ⟨S64x32x32, .f32⟩
  | 114 => ⟨S64x32x32, .f32⟩
  | 115 => ⟨S64x1x32x32, .f32⟩
  | 116 => ⟨S64x3x32x32, .f32⟩
  | 117 => ⟨S64x3x32x32, .f32⟩
  | 118 => ⟨S_, .f32⟩
  | 119 => ⟨S64x32x32, .f32⟩
  | 120 => ⟨S64x32x32, .f32⟩
  | 121 => ⟨S64x1x32x32, .f32⟩
  | 122 => ⟨S64x3x32x32, .f32⟩
  | 123 => ⟨S64x3x32x32, .f32⟩
  | 124 => ⟨S64x1x32x32, .f32⟩
  | 125 => ⟨S64x3x32x32, .f32⟩
  | 126 => ⟨S64x3x32x32, .f32⟩
  | 127 => ⟨S_, .f32⟩
  | _ => ⟨S64x3x512x512, .f32⟩

abbrev hbmTy0_10 (i : Nat) : BufTy := match i % 128 with
  | 0 => ⟨S64x32x32, .f32⟩
  | 1 => ⟨S64x32x32, .f32⟩
  | 2 => ⟨S64x1x32x32, .f32⟩
  | 3 => ⟨S64x3x32x32, .f32⟩
  | 4 => ⟨S64x3x32x32, .f32⟩
  | 5 => ⟨S64x3x32x32, .f32⟩
  | 6 => ⟨S_, .f32⟩
  | 7 => ⟨S64x32x32, .f32⟩
  | 8 => ⟨S64x32x32, .f32⟩
  | 9 => ⟨S64x1x32x32, .f32⟩
  | 10 => ⟨S64x3x32x32, .f32⟩
  | 11 => ⟨S64x3x32x32, .f32⟩
  | 12 => ⟨S64x1x32x32, .f32⟩
  | 13 => ⟨S64x3x32x32, .f32⟩
  | 14 => ⟨S64x3x32x32, .f32⟩
  | 15 => ⟨S64x3x32x32, .f32⟩
  | 16 => ⟨S64x1x32x32, .f32⟩
  | 17 => ⟨S64x3x32x32, .f32⟩
  | 18 => ⟨S64x3x32x32, .f32⟩
  | 19 => ⟨S64x1x32x32, .f32⟩
  | 20 => ⟨S64x3x32x32, .f32⟩
  | 21 => ⟨S64x3x32x32, .f32⟩
  | 22 => ⟨S64x3x32x32, .f32⟩
  | 23 => ⟨S64x3x32x32, .f32⟩
  | 24 => ⟨S64x3x32x32, .f32⟩
  | 25 => ⟨S_, .f32⟩
  | 26 => ⟨S_, .f32⟩
  | 27 => ⟨S_, .f32⟩
  | 28 => ⟨S_, .f32⟩
  | 29 => ⟨S64x3x32x32, .f32⟩
  | 30 => ⟨S64x3x32x32, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S64x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_18 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_19 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_cst_21 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_v62 : Ref sig .tc := ⟨.hbm, 94, rfl⟩
abbrev main_cst_22 : Ref sig .tc := ⟨.hbm, 95, rfl⟩
abbrev main_cst_23 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v63 : Ref sig .tc := ⟨.hbm, 102, rfl⟩
abbrev main_cst_24 : Ref sig .tc := ⟨.hbm, 103, rfl⟩
abbrev main_cst_25 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v64 : Ref sig .tc := ⟨.hbm, 110, rfl⟩
abbrev main_cst_26 : Ref sig .tc := ⟨.hbm, 111, rfl⟩
abbrev main_cst_27 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v65 : Ref sig .tc := ⟨.hbm, 118, rfl⟩
abbrev main_v66 : Ref sig .tc := ⟨.hbm, 119, rfl⟩
abbrev main_cst_28 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_29 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_30 : Ref sig .tc := ⟨.hbm, 128, rfl⟩
abbrev main_v73 : Ref sig .tc := ⟨.hbm, 129, rfl⟩
abbrev main_v74 : Ref sig .tc := ⟨.hbm, 130, rfl⟩
abbrev main_cst_31 : Ref sig .tc := ⟨.hbm, 131, rfl⟩
abbrev main_v75 : Ref sig .tc := ⟨.hbm, 132, rfl⟩
abbrev main_v76 : Ref sig .tc := ⟨.hbm, 133, rfl⟩
abbrev main_cst_32 : Ref sig .tc := ⟨.hbm, 134, rfl⟩
abbrev main_v77 : Ref sig .tc := ⟨.hbm, 135, rfl⟩
abbrev main_v78 : Ref sig .tc := ⟨.hbm, 136, rfl⟩
abbrev main_cst_33 : Ref sig .tc := ⟨.hbm, 137, rfl⟩
abbrev main_v79 : Ref sig .tc := ⟨.hbm, 138, rfl⟩
abbrev main_v80 : Ref sig .tc := ⟨.hbm, 139, rfl⟩
abbrev main_cst_34 : Ref sig .tc := ⟨.hbm, 140, rfl⟩
abbrev main_v81 : Ref sig .tc := ⟨.hbm, 141, rfl⟩
abbrev main_v82 : Ref sig .tc := ⟨.hbm, 142, rfl⟩
abbrev main_cst_35 : Ref sig .tc := ⟨.hbm, 143, rfl⟩
abbrev main_v83 : Ref sig .tc := ⟨.hbm, 144, rfl⟩
abbrev main_v84 : Ref sig .tc := ⟨.hbm, 145, rfl⟩
abbrev main_cst_36 : Ref sig .tc := ⟨.hbm, 146, rfl⟩
abbrev main_v85 : Ref sig .tc := ⟨.hbm, 147, rfl⟩
abbrev main_v86 : Ref sig .tc := ⟨.hbm, 148, rfl⟩
abbrev main_cst_37 : Ref sig .tc := ⟨.hbm, 149, rfl⟩
abbrev main_v87 : Ref sig .tc := ⟨.hbm, 150, rfl⟩
abbrev main_v88 : Ref sig .tc := ⟨.hbm, 151, rfl⟩
abbrev main_cst_38 : Ref sig .tc := ⟨.hbm, 152, rfl⟩
abbrev main_v89 : Ref sig .tc := ⟨.hbm, 153, rfl⟩
abbrev main_v90 : Ref sig .tc := ⟨.hbm, 154, rfl⟩
abbrev main_cst_39 : Ref sig .tc := ⟨.hbm, 155, rfl⟩
abbrev main_v91 : Ref sig .tc := ⟨.hbm, 156, rfl⟩
abbrev main_v92 : Ref sig .tc := ⟨.hbm, 157, rfl⟩
abbrev main_cst_40 : Ref sig .tc := ⟨.hbm, 158, rfl⟩
abbrev main_v93 : Ref sig .tc := ⟨.hbm, 159, rfl⟩
abbrev main_v94 : Ref sig .tc := ⟨.hbm, 160, rfl⟩
abbrev main_cst_41 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_42 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_cst_43 : Ref sig .tc := ⟨.hbm, 191, rfl⟩
abbrev main_call4_v0 : Ref sig .tc := ⟨.hbm, 192, rfl⟩
abbrev main_call4_v1 : Ref sig .tc := ⟨.hbm, 193, rfl⟩
abbrev main_v123 : Ref sig .tc := ⟨.hbm, 194, rfl⟩
abbrev main_v124 : Ref sig .tc := ⟨.hbm, 195, rfl⟩
abbrev main_cst_44 : Ref sig .tc := ⟨.hbm, 196, rfl⟩
abbrev main_call5_v0 : Ref sig .tc := ⟨.hbm, 197, rfl⟩
abbrev main_call5_v1 : Ref sig .tc := ⟨.hbm, 198, rfl⟩
abbrev main_v125 : Ref sig .tc := ⟨.hbm, 199, rfl⟩
abbrev main_cst_45 : Ref sig .tc := ⟨.hbm, 200, rfl⟩
abbrev main_v126 : Ref sig .tc := ⟨.hbm, 201, rfl⟩
abbrev main_v127 : Ref sig .tc := ⟨.hbm, 202, rfl⟩
abbrev main_cst_46 : Ref sig .tc := ⟨.hbm, 203, rfl⟩
abbrev main_v128 : Ref sig .tc := ⟨.hbm, 204, rfl⟩
abbrev main_v129 : Ref sig .tc := ⟨.hbm, 205, rfl⟩
abbrev main_cst_47 : Ref sig .tc := ⟨.hbm, 206, rfl⟩
abbrev main_v130 : Ref sig .tc := ⟨.hbm, 207, rfl⟩
abbrev main_v131 : Ref sig .tc := ⟨.hbm, 208, rfl⟩
abbrev main_cst_48 : Ref sig .tc := ⟨.hbm, 209, rfl⟩
abbrev main_cst_49 : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_v132 : Ref sig .tc := ⟨.hbm, 216, rfl⟩
abbrev main_cst_50 : Ref sig .tc := ⟨.hbm, 217, rfl⟩
abbrev main_v133 : Ref sig .tc := ⟨.hbm, 218, rfl⟩
abbrev main_v134 : Ref sig .tc := ⟨.hbm, 219, rfl⟩
abbrev main_cst_51 : Ref sig .tc := ⟨.hbm, 220, rfl⟩
abbrev main_v135 : Ref sig .tc := ⟨.hbm, 221, rfl⟩
abbrev main_v136 : Ref sig .tc := ⟨.hbm, 222, rfl⟩
abbrev main_cst_52 : Ref sig .tc := ⟨.hbm, 223, rfl⟩
abbrev main_v137 : Ref sig .tc := ⟨.hbm, 224, rfl⟩
abbrev main_v138 : Ref sig .tc := ⟨.hbm, 225, rfl⟩
abbrev main_cst_53 : Ref sig .tc := ⟨.hbm, 226, rfl⟩
abbrev main_cst_54 : Ref sig .tc := ⟨.hbm, 227, rfl⟩
abbrev main_call7_v0 : Ref sig .tc := ⟨.hbm, 228, rfl⟩
abbrev main_call7_v1 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_c_55 : Ref sig .tc := ⟨.hbm, 238, rfl⟩
abbrev main_c_56 : Ref sig .tc := ⟨.hbm, 239, rfl⟩
abbrev main_call8_v0 : Ref sig .tc := ⟨.hbm, 240, rfl⟩
abbrev main_call8_v1 : Ref sig .tc := ⟨.hbm, 241, rfl⟩
abbrev main_call8_v2 : Ref sig .tc := ⟨.hbm, 242, rfl⟩
abbrev main_call8_v3 : Ref sig .tc := ⟨.hbm, 243, rfl⟩
abbrev main_call8_v4 : Ref sig .tc := ⟨.hbm, 244, rfl⟩
abbrev main_v144 : Ref sig .tc := ⟨.hbm, 245, rfl⟩
abbrev main_v145 : Ref sig .tc := ⟨.hbm, 246, rfl⟩
abbrev main_cst_57 : Ref sig .tc := ⟨.hbm, 247, rfl⟩
abbrev main_v146 : Ref sig .tc := ⟨.hbm, 248, rfl⟩
abbrev main_v147 : Ref sig .tc := ⟨.hbm, 249, rfl⟩
abbrev main_c_58 : Ref sig .tc := ⟨.hbm, 250, rfl⟩
abbrev main_c_59 : Ref sig .tc := ⟨.hbm, 251, rfl⟩
abbrev main_call9_v0 : Ref sig .tc := ⟨.hbm, 252, rfl⟩
abbrev main_call9_v1 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_v148 : Ref sig .tc := ⟨.hbm, 257, rfl⟩
abbrev main_v149 : Ref sig .tc := ⟨.hbm, 258, rfl⟩
abbrev main_c_60 : Ref sig .tc := ⟨.hbm, 259, rfl⟩
abbrev main_c_61 : Ref sig .tc := ⟨.hbm, 260, rfl⟩
abbrev main_call10_v0 : Ref sig .tc := ⟨.hbm, 261, rfl⟩
abbrev main_call10_v1 : Ref sig .tc := ⟨.hbm, 262, rfl⟩
abbrev main_call10_v2 : Ref sig .tc := ⟨.hbm, 263, rfl⟩
abbrev main_call10_v3 : Ref sig .tc := ⟨.hbm, 264, rfl⟩
abbrev main_call10_v4 : Ref sig .tc := ⟨.hbm, 265, rfl⟩
abbrev main_v150 : Ref sig .tc := ⟨.hbm, 266, rfl⟩
abbrev main_v151 : Ref sig .tc := ⟨.hbm, 267, rfl⟩
abbrev main_cst_62 : Ref sig .tc := ⟨.hbm, 268, rfl⟩
abbrev main_v152 : Ref sig .tc := ⟨.hbm, 269, rfl⟩
abbrev main_v153 : Ref sig .tc := ⟨.hbm, 270, rfl⟩
abbrev main_c_63 : Ref sig .tc := ⟨.hbm, 271, rfl⟩
abbrev main_c_64 : Ref sig .tc := ⟨.hbm, 272, rfl⟩
abbrev main_call11_v0 : Ref sig .tc := ⟨.hbm, 273, rfl⟩
abbrev main_call11_v1 : Ref sig .tc := ⟨.hbm, 274, rfl⟩
abbrev main_call11_v2 : Ref sig .tc := ⟨.hbm, 275, rfl⟩
abbrev main_call11_v3 : Ref sig .tc := ⟨.hbm, 276, rfl⟩
abbrev main_call11_v4 : Ref sig .tc := ⟨.hbm, 277, rfl⟩
abbrev main_v154 : Ref sig .tc := ⟨.hbm, 278, rfl⟩
abbrev main_v155 : Ref sig .tc := ⟨.hbm, 279, rfl⟩
abbrev main_c_65 : Ref sig .tc := ⟨.hbm, 280, rfl⟩
abbrev main_v156 : Ref sig .tc := ⟨.hbm, 281, rfl⟩
abbrev main_v157 : Ref sig .tc := ⟨.hbm, 282, rfl⟩
abbrev main_c_66 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_c_67 : Ref sig .tc := ⟨.hbm, 287, rfl⟩
abbrev main_v161 : Ref sig .tc := ⟨.hbm, 288, rfl⟩
abbrev main_v162 : Ref sig .tc := ⟨.hbm, 289, rfl⟩
abbrev main_c_68 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_c_69 : Ref sig .tc := ⟨.hbm, 298, rfl⟩
abbrev main_v170 : Ref sig .tc := ⟨.hbm, 299, rfl⟩
abbrev main_v171 : Ref sig .tc := ⟨.hbm, 300, rfl⟩
abbrev main_c_70 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_c_71 : Ref sig .tc := ⟨.hbm, 305, rfl⟩
abbrev main_v175 : Ref sig .tc := ⟨.hbm, 306, rfl⟩
abbrev main_v176 : Ref sig .tc := ⟨.hbm, 307, rfl⟩
abbrev main_c_72 : Ref sig .tc := ⟨.hbm, 308, rfl⟩
abbrev main_v177 : Ref sig .tc := ⟨.hbm, 309, rfl⟩
abbrev main_v178 : Ref sig .tc := ⟨.hbm, 310, rfl⟩
abbrev main_v179 : Ref sig .tc := ⟨.hbm, 311, rfl⟩
abbrev main_v180 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_c_73 : Ref sig .tc := ⟨.hbm, 316, rfl⟩
abbrev main_v184 : Ref sig .tc := ⟨.hbm, 317, rfl⟩
abbrev main_v185 : Ref sig .tc := ⟨.hbm, 318, rfl⟩
abbrev main_c_74 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_c_75 : Ref sig .tc := ⟨.hbm, 323, rfl⟩
abbrev main_v189 : Ref sig .tc := ⟨.hbm, 324, rfl⟩
abbrev main_v190 : Ref sig .tc := ⟨.hbm, 325, rfl⟩
abbrev main_c_76 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_v197 : Ref sig .tc := ⟨.hbm, 333, rfl⟩
abbrev main_c_77 : Ref sig .tc := ⟨.hbm, 334, rfl⟩
abbrev main_v198 : Ref sig .tc := ⟨.hbm, 335, rfl⟩
abbrev main_v199 : Ref sig .tc := ⟨.hbm, 336, rfl⟩
abbrev main_c_78 : Ref sig .tc := ⟨.hbm, 337, rfl⟩
abbrev main_v200 : Ref sig .tc := ⟨.hbm, 338, rfl⟩
abbrev main_v201 : Ref sig .tc := ⟨.hbm, 339, rfl⟩
abbrev main_v202 : Ref sig .tc := ⟨.hbm, 340, rfl⟩
abbrev main_c_79 : Ref sig .tc := ⟨.hbm, 341, rfl⟩
abbrev main_v203 : Ref sig .tc := ⟨.hbm, 342, rfl⟩
abbrev main_v204 : Ref sig .tc := ⟨.hbm, 343, rfl⟩
abbrev main_c_80 : Ref sig .tc := ⟨.hbm, 344, rfl⟩
abbrev main_v205 : Ref sig .tc := ⟨.hbm, 345, rfl⟩
abbrev main_v206 : Ref sig .tc := ⟨.hbm, 346, rfl⟩
abbrev main_v207 : Ref sig .tc := ⟨.hbm, 347, rfl⟩
abbrev main_v208 : Ref sig .tc := ⟨.hbm, 348, rfl⟩
abbrev main_v209 : Ref sig .tc := ⟨.hbm, 349, rfl⟩
abbrev main_v210 : Ref sig .tc := ⟨.hbm, 350, rfl⟩
abbrev main_v211 : Ref sig .tc := ⟨.hbm, 351, rfl⟩
abbrev main_cst_81 : Ref sig .tc := ⟨.hbm, 352, rfl⟩
abbrev main_v212 : Ref sig .tc := ⟨.hbm, 353, rfl⟩
abbrev main_v213 : Ref sig .tc := ⟨.hbm, 354, rfl⟩
abbrev main_v214 : Ref sig .tc := ⟨.hbm, 355, rfl⟩
abbrev main_v215 : Ref sig .tc := ⟨.hbm, 356, rfl⟩
abbrev main_v216 : Ref sig .tc := ⟨.hbm, 357, rfl⟩
abbrev main_cst_82 : Ref sig .tc := ⟨.hbm, 358, rfl⟩
abbrev main_v217 : Ref sig .tc := ⟨.hbm, 359, rfl⟩
abbrev main_v218 : Ref sig .tc := ⟨.hbm, 360, rfl⟩
abbrev main_v219 : Ref sig .tc := ⟨.hbm, 361, rfl⟩
abbrev main_v220 : Ref sig .tc := ⟨.hbm, 362, rfl⟩
abbrev main_v221 : Ref sig .tc := ⟨.hbm, 363, rfl⟩
abbrev main_v222 : Ref sig .tc := ⟨.hbm, 364, rfl⟩
abbrev main_v223 : Ref sig .tc := ⟨.hbm, 365, rfl⟩
abbrev main_v224 : Ref sig .tc := ⟨.hbm, 366, rfl⟩
abbrev main_cst_83 : Ref sig .tc := ⟨.hbm, 367, rfl⟩
abbrev main_v225 : Ref sig .tc := ⟨.hbm, 368, rfl⟩
abbrev main_v226 : Ref sig .tc := ⟨.hbm, 369, rfl⟩
abbrev main_v227 : Ref sig .tc := ⟨.hbm, 370, rfl⟩
abbrev main_v228 : Ref sig .tc := ⟨.hbm, 371, rfl⟩
abbrev main_v229 : Ref sig .tc := ⟨.hbm, 372, rfl⟩
abbrev main_v230 : Ref sig .tc := ⟨.hbm, 373, rfl⟩
abbrev main_cst_84 : Ref sig .tc := ⟨.hbm, 374, rfl⟩
abbrev main_v231 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_v235 : Ref sig .tc := ⟨.hbm, 379, rfl⟩
abbrev main_v236 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_v241 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_v245 : Ref sig .tc := ⟨.hbm, 389, rfl⟩
abbrev main_v246 : Ref sig .tc := ⟨.hbm, 390, rfl⟩
abbrev main_cst_85 : Ref sig .tc := ⟨.hbm, 391, rfl⟩
abbrev main_cst_86 : Ref sig .tc := ⟨.hbm, 392, rfl⟩
abbrev main_call12_v0 : Ref sig .tc := ⟨.hbm, 393, rfl⟩
abbrev main_call12_v1 : Ref sig .tc := ⟨.hbm, 394, rfl⟩
abbrev main_call12_v2 : Ref sig .tc := ⟨.hbm, 395, rfl⟩
abbrev main_call12_v3 : Ref sig .tc := ⟨.hbm, 396, rfl⟩
abbrev main_call12_v4 : Ref sig .tc := ⟨.hbm, 397, rfl⟩
abbrev main_v247 : Ref sig .tc := ⟨.hbm, 398, rfl⟩
abbrev main_cst_87 : Ref sig .tc := ⟨.hbm, 399, rfl⟩
abbrev main_cst_88 : Ref sig .tc := ⟨.hbm, 400, rfl⟩
abbrev main_call13_v0 : Ref sig .tc := ⟨.hbm, 401, rfl⟩
abbrev main_call13_v1 : Ref sig .tc := ⟨.hbm, 402, rfl⟩
abbrev main_call13_v2 : Ref sig .tc := ⟨.hbm, 403, rfl⟩
abbrev main_call13_v3 : Ref sig .tc := ⟨.hbm, 404, rfl⟩
abbrev main_call13_v4 : Ref sig .tc := ⟨.hbm, 405, rfl⟩
abbrev main_v248 : Ref sig .tc := ⟨.hbm, 406, rfl⟩
abbrev main_cst_89 : Ref sig .tc := ⟨.hbm, 407, rfl⟩
abbrev main_cst_90 : Ref sig .tc := ⟨.hbm, 408, rfl⟩
abbrev main_call14_v0 : Ref sig .tc := ⟨.hbm, 409, rfl⟩
abbrev main_call14_v1 : Ref sig .tc := ⟨.hbm, 410, rfl⟩
abbrev main_call14_v2 : Ref sig .tc := ⟨.hbm, 411, rfl⟩
abbrev main_call14_v3 : Ref sig .tc := ⟨.hbm, 412, rfl⟩
abbrev main_call14_v4 : Ref sig .tc := ⟨.hbm, 413, rfl⟩
abbrev main_v249 : Ref sig .tc := ⟨.hbm, 414, rfl⟩
abbrev main_cst_91 : Ref sig .tc := ⟨.hbm, 415, rfl⟩
abbrev main_cst_92 : Ref sig .tc := ⟨.hbm, 416, rfl⟩
abbrev main_call15_v0 : Ref sig .tc := ⟨.hbm, 417, rfl⟩
abbrev main_call15_v1 : Ref sig .tc := ⟨.hbm, 418, rfl⟩
abbrev main_call15_v2 : Ref sig .tc := ⟨.hbm, 419, rfl⟩
abbrev main_call15_v3 : Ref sig .tc := ⟨.hbm, 420, rfl⟩
abbrev main_call15_v4 : Ref sig .tc := ⟨.hbm, 421, rfl⟩
abbrev main_v250 : Ref sig .tc := ⟨.hbm, 422, rfl⟩
abbrev main_v251 : Ref sig .tc := ⟨.hbm, 423, rfl⟩
abbrev main_cst_93 : Ref sig .tc := ⟨.hbm, 424, rfl⟩
abbrev main_v252 : Ref sig .tc := ⟨.hbm, 425, rfl⟩
abbrev main_v253 : Ref sig .tc := ⟨.hbm, 426, rfl⟩
abbrev main_v254 : Ref sig .tc := ⟨.hbm, 427, rfl⟩
abbrev main_cst_94 : Ref sig .tc := ⟨.hbm, 428, rfl⟩
abbrev main_v255 : Ref sig .tc := ⟨.hbm, 429, rfl⟩
abbrev main_v256 : Ref sig .tc := ⟨.hbm, 430, rfl⟩
abbrev main_v257 : Ref sig .tc := ⟨.hbm, 431, rfl⟩
abbrev main_cst_95 : Ref sig .tc := ⟨.hbm, 432, rfl⟩
abbrev main_v258 : Ref sig .tc := ⟨.hbm, 433, rfl⟩
abbrev main_v259 : Ref sig .tc := ⟨.hbm, 434, rfl⟩
abbrev main_cst_96 : Ref sig .tc := ⟨.hbm, 435, rfl⟩
abbrev main_v260 : Ref sig .tc := ⟨.hbm, 436, rfl⟩
abbrev main_v261 : Ref sig .tc := ⟨.hbm, 437, rfl⟩
abbrev main_cst_97 : Ref sig .tc := ⟨.hbm, 438, rfl⟩
abbrev main_v262 : Ref sig .tc := ⟨.hbm, 439, rfl⟩
abbrev main_v263 : Ref sig .tc := ⟨.hbm, 440, rfl⟩
abbrev main_cst_98 : Ref sig .tc := ⟨.hbm, 441, rfl⟩
abbrev main_v264 : Ref sig .tc := ⟨.hbm, 442, rfl⟩
abbrev main_v265 : Ref sig .tc := ⟨.hbm, 443, rfl⟩
abbrev main_cst_99 : Ref sig .tc := ⟨.hbm, 444, rfl⟩
abbrev main_v266 : Ref sig .tc := ⟨.hbm, 445, rfl⟩
abbrev main_v267 : Ref sig .tc := ⟨.hbm, 446, rfl⟩
abbrev main_cst_100 : Ref sig .tc := ⟨.hbm, 447, rfl⟩
abbrev main_v268 : Ref sig .tc := ⟨.hbm, 448, rfl⟩
abbrev main_v269 : Ref sig .tc := ⟨.hbm, 449, rfl⟩
abbrev main_cst_101 : Ref sig .tc := ⟨.hbm, 450, rfl⟩
abbrev main_v270 : Ref sig .tc := ⟨.hbm, 451, rfl⟩
abbrev main_v271 : Ref sig .tc := ⟨.hbm, 452, rfl⟩
abbrev main_cst_102 : Ref sig .tc := ⟨.hbm, 453, rfl⟩
abbrev main_v272 : Ref sig .tc := ⟨.hbm, 454, rfl⟩
abbrev main_v273 : Ref sig .tc := ⟨.hbm, 455, rfl⟩
abbrev main_cst_103 : Ref sig .tc := ⟨.hbm, 456, rfl⟩
abbrev main_v274 : Ref sig .tc := ⟨.hbm, 457, rfl⟩
abbrev main_v275 : Ref sig .tc := ⟨.hbm, 458, rfl⟩
abbrev main_cst_104 : Ref sig .tc := ⟨.hbm, 459, rfl⟩
abbrev main_v276 : Ref sig .tc := ⟨.hbm, 460, rfl⟩
abbrev main_v277 : Ref sig .tc := ⟨.hbm, 461, rfl⟩
abbrev main_cst_105 : Ref sig .tc := ⟨.hbm, 462, rfl⟩
abbrev main_v278 : Ref sig .tc := ⟨.hbm, 463, rfl⟩
abbrev main_v279 : Ref sig .tc := ⟨.hbm, 464, rfl⟩
abbrev main_cst_106 : Ref sig .tc := ⟨.hbm, 465, rfl⟩
abbrev main_v280 : Ref sig .tc := ⟨.hbm, 466, rfl⟩
abbrev main_v281 : Ref sig .tc := ⟨.hbm, 467, rfl⟩
abbrev main_v282 : Ref sig .tc := ⟨.hbm, 468, rfl⟩
abbrev main_cst_107 : Ref sig .tc := ⟨.hbm, 469, rfl⟩
abbrev main_v283 : Ref sig .tc := ⟨.hbm, 470, rfl⟩
abbrev main_v284 : Ref sig .tc := ⟨.hbm, 471, rfl⟩
abbrev main_v285 : Ref sig .tc := ⟨.hbm, 472, rfl⟩
abbrev main_v286 : Ref sig .tc := ⟨.hbm, 473, rfl⟩
abbrev main_v287 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_v291 : Ref sig .tc := ⟨.hbm, 478, rfl⟩
abbrev main_v292 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_v296 : Ref sig .tc := ⟨.hbm, 483, rfl⟩
abbrev main_v297 : Ref sig .tc := ⟨.hbm, 484, rfl⟩
abbrev main_v298 : Ref sig .tc := ⟨.hbm, 485, rfl⟩
abbrev main_v299 : Ref sig .tc := ⟨.hbm, 486, rfl⟩
abbrev main_v300 : Ref sig .tc := ⟨.hbm, 487, rfl⟩
abbrev main_v301 : Ref sig .tc := ⟨.hbm, 488, rfl⟩
abbrev main_v302 : Ref sig .tc := ⟨.hbm, 489, rfl⟩
abbrev main_v303 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_v307 : Ref sig .tc := ⟨.hbm, 494, rfl⟩
abbrev main_cst_108 : Ref sig .tc := ⟨.hbm, 495, rfl⟩
abbrev main_call16_v0 : Ref sig .tc := ⟨.hbm, 496, rfl⟩
abbrev main_call16_v1 : Ref sig .tc := ⟨.hbm, 497, rfl⟩
abbrev main_v308 : Ref sig .tc := ⟨.hbm, 498, rfl⟩
abbrev main_v309 : Ref sig .tc := ⟨.hbm, 499, rfl⟩
abbrev main_cst_109 : Ref sig .tc := ⟨.hbm, 500, rfl⟩
abbrev main_call17_v0 : Ref sig .tc := ⟨.hbm, 501, rfl⟩
abbrev main_call17_v1 : Ref sig .tc := ⟨.hbm, 502, rfl⟩
abbrev main_v310 : Ref sig .tc := ⟨.hbm, 503, rfl⟩
abbrev main_cst_110 : Ref sig .tc := ⟨.hbm, 504, rfl⟩
abbrev main_v311 : Ref sig .tc := ⟨.hbm, 505, rfl⟩
abbrev main_v312 : Ref sig .tc := ⟨.hbm, 506, rfl⟩
abbrev main_cst_111 : Ref sig .tc := ⟨.hbm, 507, rfl⟩
abbrev main_v313 : Ref sig .tc := ⟨.hbm, 508, rfl⟩
abbrev main_v314 : Ref sig .tc := ⟨.hbm, 509, rfl⟩
abbrev main_cst_112 : Ref sig .tc := ⟨.hbm, 510, rfl⟩
abbrev main_v315 : Ref sig .tc := ⟨.hbm, 511, rfl⟩
abbrev main_v316 : Ref sig .tc := ⟨.hbm, 512, rfl⟩
abbrev main_cst_113 : Ref sig .tc := ⟨.hbm, 513, rfl⟩
abbrev main_cst_114 : Ref sig .tc := ⟨.hbm, 514, rfl⟩
abbrev main_call18_v0 : Ref sig .tc := ⟨.hbm, 515, rfl⟩
abbrev main_call18_v1 : Ref sig .tc := ⟨.hbm, 516, rfl⟩
abbrev main_call18_v2 : Ref sig .tc := ⟨.hbm, 517, rfl⟩
abbrev main_call18_v3 : Ref sig .tc := ⟨.hbm, 518, rfl⟩
abbrev main_call18_v4 : Ref sig .tc := ⟨.hbm, 519, rfl⟩
abbrev main_v317 : Ref sig .tc := ⟨.hbm, 520, rfl⟩
abbrev main_cst_115 : Ref sig .tc := ⟨.hbm, 521, rfl⟩
abbrev main_v318 : Ref sig .tc := ⟨.hbm, 522, rfl⟩
abbrev main_v319 : Ref sig .tc := ⟨.hbm, 523, rfl⟩
abbrev main_cst_116 : Ref sig .tc := ⟨.hbm, 524, rfl⟩
abbrev main_v320 : Ref sig .tc := ⟨.hbm, 525, rfl⟩
abbrev main_v321 : Ref sig .tc := ⟨.hbm, 526, rfl⟩
abbrev main_cst_117 : Ref sig .tc := ⟨.hbm, 527, rfl⟩
abbrev main_v322 : Ref sig .tc := ⟨.hbm, 528, rfl⟩
abbrev main_v323 : Ref sig .tc := ⟨.hbm, 529, rfl⟩
abbrev main_cst_118 : Ref sig .tc := ⟨.hbm, 530, rfl⟩
abbrev main_cst_119 : Ref sig .tc := ⟨.hbm, 531, rfl⟩
abbrev main_call19_v0 : Ref sig .tc := ⟨.hbm, 532, rfl⟩
abbrev main_call19_v1 : Ref sig .tc := ⟨.hbm, 533, rfl⟩
abbrev main_call19_v2 : Ref sig .tc := ⟨.hbm, 534, rfl⟩
abbrev main_call19_v3 : Ref sig .tc := ⟨.hbm, 535, rfl⟩
abbrev main_call19_v4 : Ref sig .tc := ⟨.hbm, 536, rfl⟩
abbrev main_v324 : Ref sig .tc := ⟨.hbm, 537, rfl⟩
abbrev main_v325 : Ref sig .tc := ⟨.hbm, 538, rfl⟩
abbrev main_v326 : Ref sig .tc := ⟨.hbm, 539, rfl⟩
abbrev main_v327 : Ref sig .tc := ⟨.hbm, 540, rfl⟩
abbrev main_v328 : Ref sig .tc := ⟨.hbm, 541, rfl⟩
abbrev main_c_120 : Ref sig .tc := ⟨.hbm, 542, rfl⟩
abbrev main_c_121 : Ref sig .tc := ⟨.hbm, 543, rfl⟩
abbrev main_call20_v0 : Ref sig .tc := ⟨.hbm, 544, rfl⟩
abbrev main_call20_v1 : Ref sig .tc := ⟨.hbm, 545, rfl⟩
abbrev main_call20_v2 : Ref sig .tc := ⟨.hbm, 546, rfl⟩
abbrev main_call20_v3 : Ref sig .tc := ⟨.hbm, 547, rfl⟩
abbrev main_call20_v4 : Ref sig .tc := ⟨.hbm, 548, rfl⟩
abbrev main_v329 : Ref sig .tc := ⟨.hbm, 549, rfl⟩
abbrev main_v330 : Ref sig .tc := ⟨.hbm, 550, rfl⟩
abbrev main_cst_122 : Ref sig .tc := ⟨.hbm, 551, rfl⟩
abbrev main_v331 : Ref sig .tc := ⟨.hbm, 552, rfl⟩
abbrev main_v332 : Ref sig .tc := ⟨.hbm, 553, rfl⟩
abbrev main_c_123 : Ref sig .tc := ⟨.hbm, 554, rfl⟩
abbrev main_c_124 : Ref sig .tc := ⟨.hbm, 555, rfl⟩
abbrev main_call21_v0 : Ref sig .tc := ⟨.hbm, 556, rfl⟩
abbrev main_call21_v1 : Ref sig .tc := ⟨.hbm, 557, rfl⟩
abbrev main_call21_v2 : Ref sig .tc := ⟨.hbm, 558, rfl⟩
abbrev main_call21_v3 : Ref sig .tc := ⟨.hbm, 559, rfl⟩
abbrev main_call21_v4 : Ref sig .tc := ⟨.hbm, 560, rfl⟩
abbrev main_v333 : Ref sig .tc := ⟨.hbm, 561, rfl⟩
abbrev main_v334 : Ref sig .tc := ⟨.hbm, 562, rfl⟩
abbrev main_c_125 : Ref sig .tc := ⟨.hbm, 563, rfl⟩
abbrev main_c_126 : Ref sig .tc := ⟨.hbm, 564, rfl⟩
abbrev main_call22_v0 : Ref sig .tc := ⟨.hbm, 565, rfl⟩
abbrev main_call22_v1 : Ref sig .tc := ⟨.hbm, 566, rfl⟩
abbrev main_call22_v2 : Ref sig .tc := ⟨.hbm, 567, rfl⟩
abbrev main_call22_v3 : Ref sig .tc := ⟨.hbm, 568, rfl⟩
abbrev main_call22_v4 : Ref sig .tc := ⟨.hbm, 569, rfl⟩
abbrev main_v335 : Ref sig .tc := ⟨.hbm, 570, rfl⟩
abbrev main_v336 : Ref sig .tc := ⟨.hbm, 571, rfl⟩
abbrev main_cst_127 : Ref sig .tc := ⟨.hbm, 572, rfl⟩
abbrev main_v337 : Ref sig .tc := ⟨.hbm, 573, rfl⟩
abbrev main_v338 : Ref sig .tc := ⟨.hbm, 574, rfl⟩
abbrev main_c_128 : Ref sig .tc := ⟨.hbm, 575, rfl⟩
abbrev main_c_129 : Ref sig .tc := ⟨.hbm, 576, rfl⟩
abbrev main_call23_v0 : Ref sig .tc := ⟨.hbm, 577, rfl⟩
abbrev main_call23_v1 : Ref sig .tc := ⟨.hbm, 578, rfl⟩
abbrev main_call23_v2 : Ref sig .tc := ⟨.hbm, 579, rfl⟩
abbrev main_call23_v3 : Ref sig .tc := ⟨.hbm, 580, rfl⟩
abbrev main_call23_v4 : Ref sig .tc := ⟨.hbm, 581, rfl⟩
abbrev main_v339 : Ref sig .tc := ⟨.hbm, 582, rfl⟩
abbrev main_v340 : Ref sig .tc := ⟨.hbm, 583, rfl⟩
abbrev main_c_130 : Ref sig .tc := ⟨.hbm, 584, rfl⟩
abbrev main_v341 : Ref sig .tc := ⟨.hbm, 585, rfl⟩
abbrev main_v342 : Ref sig .tc := ⟨.hbm, 586, rfl⟩
abbrev main_c_131 : Ref sig .tc := ⟨.hbm, 587, rfl⟩
abbrev main_v343 : Ref sig .tc := ⟨.hbm, 588, rfl⟩
abbrev main_v344 : Ref sig .tc := ⟨.hbm, 589, rfl⟩
abbrev main_v345 : Ref sig .tc := ⟨.hbm, 590, rfl⟩
abbrev main_c_132 : Ref sig .tc := ⟨.hbm, 591, rfl⟩
abbrev main_v346 : Ref sig .tc := ⟨.hbm, 592, rfl⟩
abbrev main_v347 : Ref sig .tc := ⟨.hbm, 593, rfl⟩
abbrev main_c_133 : Ref sig .tc := ⟨.hbm, 594, rfl⟩
abbrev main_v348 : Ref sig .tc := ⟨.hbm, 595, rfl⟩
abbrev main_v349 : Ref sig .tc := ⟨.hbm, 596, rfl⟩
abbrev main_v350 : Ref sig .tc := ⟨.hbm, 597, rfl⟩
abbrev main_v351 : Ref sig .tc := ⟨.hbm, 598, rfl⟩
abbrev main_v352 : Ref sig .tc := ⟨.hbm, 599, rfl⟩
abbrev main_v353 : Ref sig .tc := ⟨.hbm, 600, rfl⟩
abbrev main_v354 : Ref sig .tc := ⟨.hbm, 601, rfl⟩
abbrev main_c_134 : Ref sig .tc := ⟨.hbm, 602, rfl⟩
abbrev main_v355 : Ref sig .tc := ⟨.hbm, 603, rfl⟩
abbrev main_v356 : Ref sig .tc := ⟨.hbm, 604, rfl⟩
abbrev main_c_135 : Ref sig .tc := ⟨.hbm, 605, rfl⟩
abbrev main_v357 : Ref sig .tc := ⟨.hbm, 606, rfl⟩
abbrev main_v358 : Ref sig .tc := ⟨.hbm, 607, rfl⟩
abbrev main_v359 : Ref sig .tc := ⟨.hbm, 608, rfl⟩
abbrev main_c_136 : Ref sig .tc := ⟨.hbm, 609, rfl⟩
abbrev main_v360 : Ref sig .tc := ⟨.hbm, 610, rfl⟩
abbrev main_v361 : Ref sig .tc := ⟨.hbm, 611, rfl⟩
abbrev main_c_137 : Ref sig .tc := ⟨.hbm, 612, rfl⟩
abbrev main_v362 : Ref sig .tc := ⟨.hbm, 613, rfl⟩
abbrev main_v363 : Ref sig .tc := ⟨.hbm, 614, rfl⟩
abbrev main_v364 : Ref sig .tc := ⟨.hbm, 615, rfl⟩
abbrev main_v365 : Ref sig .tc := ⟨.hbm, 616, rfl⟩
abbrev main_v366 : Ref sig .tc := ⟨.hbm, 617, rfl⟩
abbrev main_v367 : Ref sig .tc := ⟨.hbm, 618, rfl⟩
abbrev main_v368 : Ref sig .tc := ⟨.hbm, 619, rfl⟩
abbrev main_c_138 : Ref sig .tc := ⟨.hbm, 620, rfl⟩
abbrev main_v369 : Ref sig .tc := ⟨.hbm, 621, rfl⟩
abbrev main_v370 : Ref sig .tc := ⟨.hbm, 622, rfl⟩
abbrev main_c_139 : Ref sig .tc := ⟨.hbm, 623, rfl⟩
abbrev main_v371 : Ref sig .tc := ⟨.hbm, 624, rfl⟩
abbrev main_v372 : Ref sig .tc := ⟨.hbm, 625, rfl⟩
abbrev main_v373 : Ref sig .tc := ⟨.hbm, 626, rfl⟩
abbrev main_c_140 : Ref sig .tc := ⟨.hbm, 627, rfl⟩
abbrev main_v374 : Ref sig .tc := ⟨.hbm, 628, rfl⟩
abbrev main_v375 : Ref sig .tc := ⟨.hbm, 629, rfl⟩
abbrev main_c_141 : Ref sig .tc := ⟨.hbm, 630, rfl⟩
abbrev main_v376 : Ref sig .tc := ⟨.hbm, 631, rfl⟩
abbrev main_v377 : Ref sig .tc := ⟨.hbm, 632, rfl⟩
abbrev main_v378 : Ref sig .tc := ⟨.hbm, 633, rfl⟩
abbrev main_v379 : Ref sig .tc := ⟨.hbm, 634, rfl⟩
abbrev main_v380 : Ref sig .tc := ⟨.hbm, 635, rfl⟩
abbrev main_v381 : Ref sig .tc := ⟨.hbm, 636, rfl⟩
abbrev main_v382 : Ref sig .tc := ⟨.hbm, 637, rfl⟩
abbrev main_c_142 : Ref sig .tc := ⟨.hbm, 638, rfl⟩
abbrev main_v383 : Ref sig .tc := ⟨.hbm, 639, rfl⟩
abbrev main_v384 : Ref sig .tc := ⟨.hbm, 640, rfl⟩
abbrev main_c_143 : Ref sig .tc := ⟨.hbm, 641, rfl⟩
abbrev main_v385 : Ref sig .tc := ⟨.hbm, 642, rfl⟩
abbrev main_v386 : Ref sig .tc := ⟨.hbm, 643, rfl⟩
abbrev main_v387 : Ref sig .tc := ⟨.hbm, 644, rfl⟩
abbrev main_c_144 : Ref sig .tc := ⟨.hbm, 645, rfl⟩
abbrev main_v388 : Ref sig .tc := ⟨.hbm, 646, rfl⟩
abbrev main_v389 : Ref sig .tc := ⟨.hbm, 647, rfl⟩
abbrev main_c_145 : Ref sig .tc := ⟨.hbm, 648, rfl⟩
abbrev main_v390 : Ref sig .tc := ⟨.hbm, 649, rfl⟩
abbrev main_v391 : Ref sig .tc := ⟨.hbm, 650, rfl⟩
abbrev main_v392 : Ref sig .tc := ⟨.hbm, 651, rfl⟩
abbrev main_v393 : Ref sig .tc := ⟨.hbm, 652, rfl⟩
abbrev main_v394 : Ref sig .tc := ⟨.hbm, 653, rfl⟩
abbrev main_v395 : Ref sig .tc := ⟨.hbm, 654, rfl⟩
abbrev main_v396 : Ref sig .tc := ⟨.hbm, 655, rfl⟩
abbrev main_cst_146 : Ref sig .tc := ⟨.hbm, 656, rfl⟩
abbrev main_v397 : Ref sig .tc := ⟨.hbm, 657, rfl⟩
abbrev main_v398 : Ref sig .tc := ⟨.hbm, 658, rfl⟩
abbrev main_v399 : Ref sig .tc := ⟨.hbm, 659, rfl⟩
abbrev main_v400 : Ref sig .tc := ⟨.hbm, 660, rfl⟩
abbrev main_v401 : Ref sig .tc := ⟨.hbm, 661, rfl⟩
abbrev main_cst_147 : Ref sig .tc := ⟨.hbm, 662, rfl⟩
abbrev main_v402 : Ref sig .tc := ⟨.hbm, 663, rfl⟩
abbrev main_v403 : Ref sig .tc := ⟨.hbm, 664, rfl⟩
abbrev main_v404 : Ref sig .tc := ⟨.hbm, 665, rfl⟩
abbrev main_v405 : Ref sig .tc := ⟨.hbm, 666, rfl⟩
abbrev main_v406 : Ref sig .tc := ⟨.hbm, 667, rfl⟩
abbrev main_v407 : Ref sig .tc := ⟨.hbm, 668, rfl⟩
abbrev main_v408 : Ref sig .tc := ⟨.hbm, 669, rfl⟩
abbrev main_v409 : Ref sig .tc := ⟨.hbm, 670, rfl⟩
abbrev main_cst_148 : Ref sig .tc := ⟨.hbm, 671, rfl⟩
abbrev main_v410 : Ref sig .tc := ⟨.hbm, 672, rfl⟩
abbrev main_v411 : Ref sig .tc := ⟨.hbm, 673, rfl⟩
abbrev main_v412 : Ref sig .tc := ⟨.hbm, 674, rfl⟩
abbrev main_v413 : Ref sig .tc := ⟨.hbm, 675, rfl⟩
abbrev main_v414 : Ref sig .tc := ⟨.hbm, 676, rfl⟩
abbrev main_v415 : Ref sig .tc := ⟨.hbm, 677, rfl⟩
abbrev main_cst_149 : Ref sig .tc := ⟨.hbm, 678, rfl⟩
abbrev main_v416 : Ref sig .tc := ⟨.hbm, 679, rfl⟩
abbrev main_v417 : Ref sig .tc := ⟨.hbm, 680, rfl⟩
abbrev main_v418 : Ref sig .tc := ⟨.hbm, 681, rfl⟩
abbrev main_v419 : Ref sig .tc := ⟨.hbm, 682, rfl⟩
abbrev main_v420 : Ref sig .tc := ⟨.hbm, 683, rfl⟩
abbrev main_v421 : Ref sig .tc := ⟨.hbm, 684, rfl⟩
abbrev main_v422 : Ref sig .tc := ⟨.hbm, 685, rfl⟩
abbrev main_v423 : Ref sig .tc := ⟨.hbm, 686, rfl⟩
abbrev main_v424 : Ref sig .tc := ⟨.hbm, 687, rfl⟩
abbrev main_v425 : Ref sig .tc := ⟨.hbm, 688, rfl⟩
abbrev main_v426 : Ref sig .tc := ⟨.hbm, 689, rfl⟩
abbrev main_v427 : Ref sig .tc := ⟨.hbm, 690, rfl⟩
abbrev main_v428 : Ref sig .tc := ⟨.hbm, 691, rfl⟩
abbrev main_v429 : Ref sig .tc := ⟨.hbm, 692, rfl⟩
abbrev main_v430 : Ref sig .tc := ⟨.hbm, 693, rfl⟩
abbrev main_v431 : Ref sig .tc := ⟨.hbm, 694, rfl⟩
abbrev main_cst_150 : Ref sig .tc := ⟨.hbm, 695, rfl⟩
abbrev main_cst_151 : Ref sig .tc := ⟨.hbm, 696, rfl⟩
abbrev main_call24_v0 : Ref sig .tc := ⟨.hbm, 697, rfl⟩
abbrev main_call24_v1 : Ref sig .tc := ⟨.hbm, 698, rfl⟩
abbrev main_call24_v2 : Ref sig .tc := ⟨.hbm, 699, rfl⟩
abbrev main_call24_v3 : Ref sig .tc := ⟨.hbm, 700, rfl⟩
abbrev main_call24_v4 : Ref sig .tc := ⟨.hbm, 701, rfl⟩
abbrev main_v432 : Ref sig .tc := ⟨.hbm, 702, rfl⟩
abbrev main_cst_152 : Ref sig .tc := ⟨.hbm, 703, rfl⟩
abbrev main_cst_153 : Ref sig .tc := ⟨.hbm, 704, rfl⟩
abbrev main_call25_v0 : Ref sig .tc := ⟨.hbm, 705, rfl⟩
abbrev main_call25_v1 : Ref sig .tc := ⟨.hbm, 706, rfl⟩
abbrev main_call25_v2 : Ref sig .tc := ⟨.hbm, 707, rfl⟩
abbrev main_call25_v3 : Ref sig .tc := ⟨.hbm, 708, rfl⟩
abbrev main_call25_v4 : Ref sig .tc := ⟨.hbm, 709, rfl⟩
abbrev main_v433 : Ref sig .tc := ⟨.hbm, 710, rfl⟩
abbrev main_cst_154 : Ref sig .tc := ⟨.hbm, 711, rfl⟩
abbrev main_cst_155 : Ref sig .tc := ⟨.hbm, 712, rfl⟩
abbrev main_call26_v0 : Ref sig .tc := ⟨.hbm, 713, rfl⟩
abbrev main_call26_v1 : Ref sig .tc := ⟨.hbm, 714, rfl⟩
abbrev main_call26_v2 : Ref sig .tc := ⟨.hbm, 715, rfl⟩
abbrev main_call26_v3 : Ref sig .tc := ⟨.hbm, 716, rfl⟩
abbrev main_call26_v4 : Ref sig .tc := ⟨.hbm, 717, rfl⟩
abbrev main_v434 : Ref sig .tc := ⟨.hbm, 718, rfl⟩
abbrev main_cst_156 : Ref sig .tc := ⟨.hbm, 719, rfl⟩
abbrev main_cst_157 : Ref sig .tc := ⟨.hbm, 720, rfl⟩
abbrev main_call27_v0 : Ref sig .tc := ⟨.hbm, 721, rfl⟩
abbrev main_call27_v1 : Ref sig .tc := ⟨.hbm, 722, rfl⟩
abbrev main_call27_v2 : Ref sig .tc := ⟨.hbm, 723, rfl⟩
abbrev main_call27_v3 : Ref sig .tc := ⟨.hbm, 724, rfl⟩
abbrev main_call27_v4 : Ref sig .tc := ⟨.hbm, 725, rfl⟩
abbrev main_v435 : Ref sig .tc := ⟨.hbm, 726, rfl⟩
abbrev main_v436 : Ref sig .tc := ⟨.hbm, 727, rfl⟩
abbrev main_cst_158 : Ref sig .tc := ⟨.hbm, 728, rfl⟩
abbrev main_v437 : Ref sig .tc := ⟨.hbm, 729, rfl⟩
abbrev main_v438 : Ref sig .tc := ⟨.hbm, 730, rfl⟩
abbrev main_v439 : Ref sig .tc := ⟨.hbm, 731, rfl⟩
abbrev main_cst_159 : Ref sig .tc := ⟨.hbm, 732, rfl⟩
abbrev main_v440 : Ref sig .tc := ⟨.hbm, 733, rfl⟩
abbrev main_v441 : Ref sig .tc := ⟨.hbm, 734, rfl⟩
abbrev main_v442 : Ref sig .tc := ⟨.hbm, 735, rfl⟩
abbrev main_cst_160 : Ref sig .tc := ⟨.hbm, 736, rfl⟩
abbrev main_v443 : Ref sig .tc := ⟨.hbm, 737, rfl⟩
abbrev main_v444 : Ref sig .tc := ⟨.hbm, 738, rfl⟩
abbrev main_cst_161 : Ref sig .tc := ⟨.hbm, 739, rfl⟩
abbrev main_v445 : Ref sig .tc := ⟨.hbm, 740, rfl⟩
abbrev main_v446 : Ref sig .tc := ⟨.hbm, 741, rfl⟩
abbrev main_cst_162 : Ref sig .tc := ⟨.hbm, 742, rfl⟩
abbrev main_v447 : Ref sig .tc := ⟨.hbm, 743, rfl⟩
abbrev main_v448 : Ref sig .tc := ⟨.hbm, 744, rfl⟩
abbrev main_cst_163 : Ref sig .tc := ⟨.hbm, 745, rfl⟩
abbrev main_v449 : Ref sig .tc := ⟨.hbm, 746, rfl⟩
abbrev main_v450 : Ref sig .tc := ⟨.hbm, 747, rfl⟩
abbrev main_cst_164 : Ref sig .tc := ⟨.hbm, 748, rfl⟩
abbrev main_v451 : Ref sig .tc := ⟨.hbm, 749, rfl⟩
abbrev main_v452 : Ref sig .tc := ⟨.hbm, 750, rfl⟩
abbrev main_cst_165 : Ref sig .tc := ⟨.hbm, 751, rfl⟩
abbrev main_v453 : Ref sig .tc := ⟨.hbm, 752, rfl⟩
abbrev main_v454 : Ref sig .tc := ⟨.hbm, 753, rfl⟩
abbrev main_cst_166 : Ref sig .tc := ⟨.hbm, 754, rfl⟩
abbrev main_v455 : Ref sig .tc := ⟨.hbm, 755, rfl⟩
abbrev main_v456 : Ref sig .tc := ⟨.hbm, 756, rfl⟩
abbrev main_cst_167 : Ref sig .tc := ⟨.hbm, 757, rfl⟩
abbrev main_v457 : Ref sig .tc := ⟨.hbm, 758, rfl⟩
abbrev main_v458 : Ref sig .tc := ⟨.hbm, 759, rfl⟩
abbrev main_cst_168 : Ref sig .tc := ⟨.hbm, 760, rfl⟩
abbrev main_v459 : Ref sig .tc := ⟨.hbm, 761, rfl⟩
abbrev main_v460 : Ref sig .tc := ⟨.hbm, 762, rfl⟩
abbrev main_cst_169 : Ref sig .tc := ⟨.hbm, 763, rfl⟩
abbrev main_v461 : Ref sig .tc := ⟨.hbm, 764, rfl⟩
abbrev main_v462 : Ref sig .tc := ⟨.hbm, 765, rfl⟩
abbrev main_cst_170 : Ref sig .tc := ⟨.hbm, 766, rfl⟩
abbrev main_v463 : Ref sig .tc := ⟨.hbm, 767, rfl⟩
abbrev main_v464 : Ref sig .tc := ⟨.hbm, 768, rfl⟩
abbrev main_cst_171 : Ref sig .tc := ⟨.hbm, 769, rfl⟩
abbrev main_v465 : Ref sig .tc := ⟨.hbm, 770, rfl⟩
abbrev main_v466 : Ref sig .tc := ⟨.hbm, 771, rfl⟩
abbrev main_v467 : Ref sig .tc := ⟨.hbm, 772, rfl⟩
abbrev main_cst_172 : Ref sig .tc := ⟨.hbm, 773, rfl⟩
abbrev main_v468 : Ref sig .tc := ⟨.hbm, 774, rfl⟩
abbrev main_v469 : Ref sig .tc := ⟨.hbm, 775, rfl⟩
abbrev main_v470 : Ref sig .tc := ⟨.hbm, 776, rfl⟩
abbrev main_v471 : Ref sig .tc := ⟨.hbm, 777, rfl⟩
abbrev main_v472 : Ref sig .tc := ⟨.hbm, 778, rfl⟩
abbrev main_v473 : Ref sig .tc := ⟨.hbm, 779, rfl⟩
abbrev main_v474 : Ref sig .tc := ⟨.hbm, 780, rfl⟩
abbrev main_v475 : Ref sig .tc := ⟨.hbm, 781, rfl⟩
abbrev main_v476 : Ref sig .tc := ⟨.hbm, 782, rfl⟩
abbrev main_v477 : Ref sig .tc := ⟨.hbm, 783, rfl⟩
abbrev main_v478 : Ref sig .tc := ⟨.hbm, 784, rfl⟩
abbrev main_v479 : Ref sig .tc := ⟨.hbm, 785, rfl⟩
abbrev main_v480 : Ref sig .tc := ⟨.hbm, 786, rfl⟩
abbrev main_v481 : Ref sig .tc := ⟨.hbm, 787, rfl⟩
abbrev main_v482 : Ref sig .tc := ⟨.hbm, 788, rfl⟩
abbrev main_v483 : Ref sig .tc := ⟨.hbm, 789, rfl⟩
abbrev main_v484 : Ref sig .tc := ⟨.hbm, 790, rfl⟩
abbrev main_v485 : Ref sig .tc := ⟨.hbm, 791, rfl⟩
abbrev main_v486 : Ref sig .tc := ⟨.hbm, 792, rfl⟩
abbrev main_v487 : Ref sig .tc := ⟨.hbm, 793, rfl⟩
abbrev main_v488 : Ref sig .tc := ⟨.hbm, 794, rfl⟩
abbrev main_v489 : Ref sig .tc := ⟨.hbm, 795, rfl⟩
abbrev main_v490 : Ref sig .tc := ⟨.hbm, 796, rfl⟩
abbrev main_v491 : Ref sig .tc := ⟨.hbm, 797, rfl⟩
abbrev main_v492 : Ref sig .tc := ⟨.hbm, 798, rfl⟩
abbrev main_cst_173 : Ref sig .tc := ⟨.hbm, 799, rfl⟩
abbrev main_call28_v0 : Ref sig .tc := ⟨.hbm, 800, rfl⟩
abbrev main_call28_v1 : Ref sig .tc := ⟨.hbm, 801, rfl⟩
abbrev main_v493 : Ref sig .tc := ⟨.hbm, 802, rfl⟩
abbrev main_v494 : Ref sig .tc := ⟨.hbm, 803, rfl⟩
abbrev main_cst_174 : Ref sig .tc := ⟨.hbm, 804, rfl⟩
abbrev main_call29_v0 : Ref sig .tc := ⟨.hbm, 805, rfl⟩
abbrev main_call29_v1 : Ref sig .tc := ⟨.hbm, 806, rfl⟩
abbrev main_v495 : Ref sig .tc := ⟨.hbm, 807, rfl⟩
abbrev main_cst_175 : Ref sig .tc := ⟨.hbm, 808, rfl⟩
abbrev main_v496 : Ref sig .tc := ⟨.hbm, 809, rfl⟩
abbrev main_v497 : Ref sig .tc := ⟨.hbm, 810, rfl⟩
abbrev main_cst_176 : Ref sig .tc := ⟨.hbm, 811, rfl⟩
abbrev main_v498 : Ref sig .tc := ⟨.hbm, 812, rfl⟩
abbrev main_v499 : Ref sig .tc := ⟨.hbm, 813, rfl⟩
abbrev main_cst_177 : Ref sig .tc := ⟨.hbm, 814, rfl⟩
abbrev main_v500 : Ref sig .tc := ⟨.hbm, 815, rfl⟩
abbrev main_v501 : Ref sig .tc := ⟨.hbm, 816, rfl⟩
abbrev main_cst_178 : Ref sig .tc := ⟨.hbm, 817, rfl⟩
abbrev main_cst_179 : Ref sig .tc := ⟨.hbm, 818, rfl⟩
abbrev main_call30_v0 : Ref sig .tc := ⟨.hbm, 819, rfl⟩
abbrev main_call30_v1 : Ref sig .tc := ⟨.hbm, 820, rfl⟩
abbrev main_call30_v2 : Ref sig .tc := ⟨.hbm, 821, rfl⟩
abbrev main_call30_v3 : Ref sig .tc := ⟨.hbm, 822, rfl⟩
abbrev main_call30_v4 : Ref sig .tc := ⟨.hbm, 823, rfl⟩
abbrev main_v502 : Ref sig .tc := ⟨.hbm, 824, rfl⟩
abbrev main_cst_180 : Ref sig .tc := ⟨.hbm, 825, rfl⟩
abbrev main_v503 : Ref sig .tc := ⟨.hbm, 826, rfl⟩
abbrev main_v504 : Ref sig .tc := ⟨.hbm, 827, rfl⟩
abbrev main_cst_181 : Ref sig .tc := ⟨.hbm, 828, rfl⟩
abbrev main_v505 : Ref sig .tc := ⟨.hbm, 829, rfl⟩
abbrev main_v506 : Ref sig .tc := ⟨.hbm, 830, rfl⟩
abbrev main_cst_182 : Ref sig .tc := ⟨.hbm, 831, rfl⟩
abbrev main_v507 : Ref sig .tc := ⟨.hbm, 832, rfl⟩
abbrev main_v508 : Ref sig .tc := ⟨.hbm, 833, rfl⟩
abbrev main_cst_183 : Ref sig .tc := ⟨.hbm, 834, rfl⟩
abbrev main_cst_184 : Ref sig .tc := ⟨.hbm, 835, rfl⟩
abbrev main_call31_v0 : Ref sig .tc := ⟨.hbm, 836, rfl⟩
abbrev main_call31_v1 : Ref sig .tc := ⟨.hbm, 837, rfl⟩
abbrev main_call31_v2 : Ref sig .tc := ⟨.hbm, 838, rfl⟩
abbrev main_call31_v3 : Ref sig .tc := ⟨.hbm, 839, rfl⟩
abbrev main_call31_v4 : Ref sig .tc := ⟨.hbm, 840, rfl⟩
abbrev main_v509 : Ref sig .tc := ⟨.hbm, 841, rfl⟩
abbrev main_v510 : Ref sig .tc := ⟨.hbm, 842, rfl⟩
abbrev main_v511 : Ref sig .tc := ⟨.hbm, 843, rfl⟩
abbrev main_v512 : Ref sig .tc := ⟨.hbm, 844, rfl⟩
abbrev main_v513 : Ref sig .tc := ⟨.hbm, 845, rfl⟩
abbrev main_c_185 : Ref sig .tc := ⟨.hbm, 846, rfl⟩
abbrev main_c_186 : Ref sig .tc := ⟨.hbm, 847, rfl⟩
abbrev main_call32_v0 : Ref sig .tc := ⟨.hbm, 848, rfl⟩
abbrev main_call32_v1 : Ref sig .tc := ⟨.hbm, 849, rfl⟩
abbrev main_call32_v2 : Ref sig .tc := ⟨.hbm, 850, rfl⟩
abbrev main_call32_v3 : Ref sig .tc := ⟨.hbm, 851, rfl⟩
abbrev main_call32_v4 : Ref sig .tc := ⟨.hbm, 852, rfl⟩
abbrev main_v514 : Ref sig .tc := ⟨.hbm, 853, rfl⟩
abbrev main_v515 : Ref sig .tc := ⟨.hbm, 854, rfl⟩
abbrev main_cst_187 : Ref sig .tc := ⟨.hbm, 855, rfl⟩
abbrev main_v516 : Ref sig .tc := ⟨.hbm, 856, rfl⟩
abbrev main_v517 : Ref sig .tc := ⟨.hbm, 857, rfl⟩
abbrev main_c_188 : Ref sig .tc := ⟨.hbm, 858, rfl⟩
abbrev main_c_189 : Ref sig .tc := ⟨.hbm, 859, rfl⟩
abbrev main_call33_v0 : Ref sig .tc := ⟨.hbm, 860, rfl⟩
abbrev main_call33_v1 : Ref sig .tc := ⟨.hbm, 861, rfl⟩
abbrev main_call33_v2 : Ref sig .tc := ⟨.hbm, 862, rfl⟩
abbrev main_call33_v3 : Ref sig .tc := ⟨.hbm, 863, rfl⟩
abbrev main_call33_v4 : Ref sig .tc := ⟨.hbm, 864, rfl⟩
abbrev main_v518 : Ref sig .tc := ⟨.hbm, 865, rfl⟩
abbrev main_v519 : Ref sig .tc := ⟨.hbm, 866, rfl⟩
abbrev main_c_190 : Ref sig .tc := ⟨.hbm, 867, rfl⟩
abbrev main_c_191 : Ref sig .tc := ⟨.hbm, 868, rfl⟩
abbrev main_call34_v0 : Ref sig .tc := ⟨.hbm, 869, rfl⟩
abbrev main_call34_v1 : Ref sig .tc := ⟨.hbm, 870, rfl⟩
abbrev main_call34_v2 : Ref sig .tc := ⟨.hbm, 871, rfl⟩
abbrev main_call34_v3 : Ref sig .tc := ⟨.hbm, 872, rfl⟩
abbrev main_call34_v4 : Ref sig .tc := ⟨.hbm, 873, rfl⟩
abbrev main_v520 : Ref sig .tc := ⟨.hbm, 874, rfl⟩
abbrev main_v521 : Ref sig .tc := ⟨.hbm, 875, rfl⟩
abbrev main_cst_192 : Ref sig .tc := ⟨.hbm, 876, rfl⟩
abbrev main_v522 : Ref sig .tc := ⟨.hbm, 877, rfl⟩
abbrev main_v523 : Ref sig .tc := ⟨.hbm, 878, rfl⟩
abbrev main_c_193 : Ref sig .tc := ⟨.hbm, 879, rfl⟩
abbrev main_c_194 : Ref sig .tc := ⟨.hbm, 880, rfl⟩
abbrev main_call35_v0 : Ref sig .tc := ⟨.hbm, 881, rfl⟩
abbrev main_call35_v1 : Ref sig .tc := ⟨.hbm, 882, rfl⟩
abbrev main_call35_v2 : Ref sig .tc := ⟨.hbm, 883, rfl⟩
abbrev main_call35_v3 : Ref sig .tc := ⟨.hbm, 884, rfl⟩
abbrev main_call35_v4 : Ref sig .tc := ⟨.hbm, 885, rfl⟩
abbrev main_v524 : Ref sig .tc := ⟨.hbm, 886, rfl⟩
abbrev main_v525 : Ref sig .tc := ⟨.hbm, 887, rfl⟩
abbrev main_c_195 : Ref sig .tc := ⟨.hbm, 888, rfl⟩
abbrev main_v526 : Ref sig .tc := ⟨.hbm, 889, rfl⟩
abbrev main_v527 : Ref sig .tc := ⟨.hbm, 890, rfl⟩
abbrev main_c_196 : Ref sig .tc := ⟨.hbm, 891, rfl⟩
abbrev main_v528 : Ref sig .tc := ⟨.hbm, 892, rfl⟩
abbrev main_v529 : Ref sig .tc := ⟨.hbm, 893, rfl⟩
abbrev main_v530 : Ref sig .tc := ⟨.hbm, 894, rfl⟩
abbrev main_c_197 : Ref sig .tc := ⟨.hbm, 895, rfl⟩
abbrev main_v531 : Ref sig .tc := ⟨.hbm, 896, rfl⟩
abbrev main_v532 : Ref sig .tc := ⟨.hbm, 897, rfl⟩
abbrev main_c_198 : Ref sig .tc := ⟨.hbm, 898, rfl⟩
abbrev main_v533 : Ref sig .tc := ⟨.hbm, 899, rfl⟩
abbrev main_v534 : Ref sig .tc := ⟨.hbm, 900, rfl⟩
abbrev main_v535 : Ref sig .tc := ⟨.hbm, 901, rfl⟩
abbrev main_v536 : Ref sig .tc := ⟨.hbm, 902, rfl⟩
abbrev main_v537 : Ref sig .tc := ⟨.hbm, 903, rfl⟩
abbrev main_v538 : Ref sig .tc := ⟨.hbm, 904, rfl⟩
abbrev main_v539 : Ref sig .tc := ⟨.hbm, 905, rfl⟩
abbrev main_c_199 : Ref sig .tc := ⟨.hbm, 906, rfl⟩
abbrev main_v540 : Ref sig .tc := ⟨.hbm, 907, rfl⟩
abbrev main_v541 : Ref sig .tc := ⟨.hbm, 908, rfl⟩
abbrev main_c_200 : Ref sig .tc := ⟨.hbm, 909, rfl⟩
abbrev main_v542 : Ref sig .tc := ⟨.hbm, 910, rfl⟩
abbrev main_v543 : Ref sig .tc := ⟨.hbm, 911, rfl⟩
abbrev main_v544 : Ref sig .tc := ⟨.hbm, 912, rfl⟩
abbrev main_c_201 : Ref sig .tc := ⟨.hbm, 913, rfl⟩
abbrev main_v545 : Ref sig .tc := ⟨.hbm, 914, rfl⟩
abbrev main_v546 : Ref sig .tc := ⟨.hbm, 915, rfl⟩
abbrev main_c_202 : Ref sig .tc := ⟨.hbm, 916, rfl⟩
abbrev main_v547 : Ref sig .tc := ⟨.hbm, 917, rfl⟩
abbrev main_v548 : Ref sig .tc := ⟨.hbm, 918, rfl⟩
abbrev main_v549 : Ref sig .tc := ⟨.hbm, 919, rfl⟩
abbrev main_v550 : Ref sig .tc := ⟨.hbm, 920, rfl⟩
abbrev main_v551 : Ref sig .tc := ⟨.hbm, 921, rfl⟩
abbrev main_v552 : Ref sig .tc := ⟨.hbm, 922, rfl⟩
abbrev main_v553 : Ref sig .tc := ⟨.hbm, 923, rfl⟩
abbrev main_c_203 : Ref sig .tc := ⟨.hbm, 924, rfl⟩
abbrev main_v554 : Ref sig .tc := ⟨.hbm, 925, rfl⟩
abbrev main_v555 : Ref sig .tc := ⟨.hbm, 926, rfl⟩
abbrev main_c_204 : Ref sig .tc := ⟨.hbm, 927, rfl⟩
abbrev main_v556 : Ref sig .tc := ⟨.hbm, 928, rfl⟩
abbrev main_v557 : Ref sig .tc := ⟨.hbm, 929, rfl⟩
abbrev main_v558 : Ref sig .tc := ⟨.hbm, 930, rfl⟩
abbrev main_c_205 : Ref sig .tc := ⟨.hbm, 931, rfl⟩
abbrev main_v559 : Ref sig .tc := ⟨.hbm, 932, rfl⟩
abbrev main_v560 : Ref sig .tc := ⟨.hbm, 933, rfl⟩
abbrev main_c_206 : Ref sig .tc := ⟨.hbm, 934, rfl⟩
abbrev main_v561 : Ref sig .tc := ⟨.hbm, 935, rfl⟩
abbrev main_v562 : Ref sig .tc := ⟨.hbm, 936, rfl⟩
abbrev main_v563 : Ref sig .tc := ⟨.hbm, 937, rfl⟩
abbrev main_v564 : Ref sig .tc := ⟨.hbm, 938, rfl⟩
abbrev main_v565 : Ref sig .tc := ⟨.hbm, 939, rfl⟩
abbrev main_v566 : Ref sig .tc := ⟨.hbm, 940, rfl⟩
abbrev main_v567 : Ref sig .tc := ⟨.hbm, 941, rfl⟩
abbrev main_c_207 : Ref sig .tc := ⟨.hbm, 942, rfl⟩
abbrev main_v568 : Ref sig .tc := ⟨.hbm, 943, rfl⟩
abbrev main_v569 : Ref sig .tc := ⟨.hbm, 944, rfl⟩
abbrev main_c_208 : Ref sig .tc := ⟨.hbm, 945, rfl⟩
abbrev main_v570 : Ref sig .tc := ⟨.hbm, 946, rfl⟩
abbrev main_v571 : Ref sig .tc := ⟨.hbm, 947, rfl⟩
abbrev main_v572 : Ref sig .tc := ⟨.hbm, 948, rfl⟩
abbrev main_c_209 : Ref sig .tc := ⟨.hbm, 949, rfl⟩
abbrev main_v573 : Ref sig .tc := ⟨.hbm, 950, rfl⟩
abbrev main_v574 : Ref sig .tc := ⟨.hbm, 951, rfl⟩
abbrev main_c_210 : Ref sig .tc := ⟨.hbm, 952, rfl⟩
abbrev main_v575 : Ref sig .tc := ⟨.hbm, 953, rfl⟩
abbrev main_v576 : Ref sig .tc := ⟨.hbm, 954, rfl⟩
abbrev main_v577 : Ref sig .tc := ⟨.hbm, 955, rfl⟩
abbrev main_v578 : Ref sig .tc := ⟨.hbm, 956, rfl⟩
abbrev main_v579 : Ref sig .tc := ⟨.hbm, 957, rfl⟩
abbrev main_v580 : Ref sig .tc := ⟨.hbm, 958, rfl⟩
abbrev main_v581 : Ref sig .tc := ⟨.hbm, 959, rfl⟩
abbrev main_cst_211 : Ref sig .tc := ⟨.hbm, 960, rfl⟩
abbrev main_v582 : Ref sig .tc := ⟨.hbm, 961, rfl⟩
abbrev main_v583 : Ref sig .tc := ⟨.hbm, 962, rfl⟩
abbrev main_v584 : Ref sig .tc := ⟨.hbm, 963, rfl⟩
abbrev main_v585 : Ref sig .tc := ⟨.hbm, 964, rfl⟩
abbrev main_v586 : Ref sig .tc := ⟨.hbm, 965, rfl⟩
abbrev main_cst_212 : Ref sig .tc := ⟨.hbm, 966, rfl⟩
abbrev main_v587 : Ref sig .tc := ⟨.hbm, 967, rfl⟩
abbrev main_v588 : Ref sig .tc := ⟨.hbm, 968, rfl⟩
abbrev main_v589 : Ref sig .tc := ⟨.hbm, 969, rfl⟩
abbrev main_v590 : Ref sig .tc := ⟨.hbm, 970, rfl⟩
abbrev main_v591 : Ref sig .tc := ⟨.hbm, 971, rfl⟩
abbrev main_v592 : Ref sig .tc := ⟨.hbm, 972, rfl⟩
abbrev main_v593 : Ref sig .tc := ⟨.hbm, 973, rfl⟩
abbrev main_v594 : Ref sig .tc := ⟨.hbm, 974, rfl⟩
abbrev main_cst_213 : Ref sig .tc := ⟨.hbm, 975, rfl⟩
abbrev main_v595 : Ref sig .tc := ⟨.hbm, 976, rfl⟩
abbrev main_v596 : Ref sig .tc := ⟨.hbm, 977, rfl⟩
abbrev main_v597 : Ref sig .tc := ⟨.hbm, 978, rfl⟩
abbrev main_v598 : Ref sig .tc := ⟨.hbm, 979, rfl⟩
abbrev main_v599 : Ref sig .tc := ⟨.hbm, 980, rfl⟩
abbrev main_v600 : Ref sig .tc := ⟨.hbm, 981, rfl⟩
abbrev main_cst_214 : Ref sig .tc := ⟨.hbm, 982, rfl⟩
abbrev main_v601 : Ref sig .tc := ⟨.hbm, 983, rfl⟩
abbrev main_v602 : Ref sig .tc := ⟨.hbm, 984, rfl⟩
abbrev main_v603 : Ref sig .tc := ⟨.hbm, 985, rfl⟩
abbrev main_v604 : Ref sig .tc := ⟨.hbm, 986, rfl⟩
abbrev main_v605 : Ref sig .tc := ⟨.hbm, 987, rfl⟩
abbrev main_v606 : Ref sig .tc := ⟨.hbm, 988, rfl⟩
abbrev main_v607 : Ref sig .tc := ⟨.hbm, 989, rfl⟩
abbrev main_v608 : Ref sig .tc := ⟨.hbm, 990, rfl⟩
abbrev main_v609 : Ref sig .tc := ⟨.hbm, 991, rfl⟩
abbrev main_v610 : Ref sig .tc := ⟨.hbm, 992, rfl⟩
abbrev main_v611 : Ref sig .tc := ⟨.hbm, 993, rfl⟩
abbrev main_v612 : Ref sig .tc := ⟨.hbm, 994, rfl⟩
abbrev main_v613 : Ref sig .tc := ⟨.hbm, 995, rfl⟩
abbrev main_v614 : Ref sig .tc := ⟨.hbm, 996, rfl⟩
abbrev main_v615 : Ref sig .tc := ⟨.hbm, 997, rfl⟩
abbrev main_v616 : Ref sig .tc := ⟨.hbm, 998, rfl⟩
abbrev main_cst_215 : Ref sig .tc := ⟨.hbm, 999, rfl⟩
abbrev main_cst_216 : Ref sig .tc := ⟨.hbm, 1000, rfl⟩
abbrev main_call36_v0 : Ref sig .tc := ⟨.hbm, 1001, rfl⟩
abbrev main_call36_v1 : Ref sig .tc := ⟨.hbm, 1002, rfl⟩
abbrev main_call36_v2 : Ref sig .tc := ⟨.hbm, 1003, rfl⟩
abbrev main_call36_v3 : Ref sig .tc := ⟨.hbm, 1004, rfl⟩
abbrev main_call36_v4 : Ref sig .tc := ⟨.hbm, 1005, rfl⟩
abbrev main_v617 : Ref sig .tc := ⟨.hbm, 1006, rfl⟩
abbrev main_cst_217 : Ref sig .tc := ⟨.hbm, 1007, rfl⟩
abbrev main_cst_218 : Ref sig .tc := ⟨.hbm, 1008, rfl⟩
abbrev main_call37_v0 : Ref sig .tc := ⟨.hbm, 1009, rfl⟩
abbrev main_call37_v1 : Ref sig .tc := ⟨.hbm, 1010, rfl⟩
abbrev main_call37_v2 : Ref sig .tc := ⟨.hbm, 1011, rfl⟩
abbrev main_call37_v3 : Ref sig .tc := ⟨.hbm, 1012, rfl⟩
abbrev main_call37_v4 : Ref sig .tc := ⟨.hbm, 1013, rfl⟩
abbrev main_v618 : Ref sig .tc := ⟨.hbm, 1014, rfl⟩
abbrev main_cst_219 : Ref sig .tc := ⟨.hbm, 1015, rfl⟩
abbrev main_cst_220 : Ref sig .tc := ⟨.hbm, 1016, rfl⟩
abbrev main_call38_v0 : Ref sig .tc := ⟨.hbm, 1017, rfl⟩
abbrev main_call38_v1 : Ref sig .tc := ⟨.hbm, 1018, rfl⟩
abbrev main_call38_v2 : Ref sig .tc := ⟨.hbm, 1019, rfl⟩
abbrev main_call38_v3 : Ref sig .tc := ⟨.hbm, 1020, rfl⟩
abbrev main_call38_v4 : Ref sig .tc := ⟨.hbm, 1021, rfl⟩
abbrev main_v619 : Ref sig .tc := ⟨.hbm, 1022, rfl⟩
abbrev main_cst_221 : Ref sig .tc := ⟨.hbm, 1023, rfl⟩
abbrev main_cst_222 : Ref sig .tc := ⟨.hbm, 1024, rfl⟩
abbrev main_call39_v0 : Ref sig .tc := ⟨.hbm, 1025, rfl⟩
abbrev main_call39_v1 : Ref sig .tc := ⟨.hbm, 1026, rfl⟩
abbrev main_call39_v2 : Ref sig .tc := ⟨.hbm, 1027, rfl⟩
abbrev main_call39_v3 : Ref sig .tc := ⟨.hbm, 1028, rfl⟩
abbrev main_call39_v4 : Ref sig .tc := ⟨.hbm, 1029, rfl⟩
abbrev main_v620 : Ref sig .tc := ⟨.hbm, 1030, rfl⟩
abbrev main_v621 : Ref sig .tc := ⟨.hbm, 1031, rfl⟩
abbrev main_cst_223 : Ref sig .tc := ⟨.hbm, 1032, rfl⟩
abbrev main_v622 : Ref sig .tc := ⟨.hbm, 1033, rfl⟩
abbrev main_v623 : Ref sig .tc := ⟨.hbm, 1034, rfl⟩
abbrev main_v624 : Ref sig .tc := ⟨.hbm, 1035, rfl⟩
abbrev main_cst_224 : Ref sig .tc := ⟨.hbm, 1036, rfl⟩
abbrev main_v625 : Ref sig .tc := ⟨.hbm, 1037, rfl⟩
abbrev main_v626 : Ref sig .tc := ⟨.hbm, 1038, rfl⟩
abbrev main_v627 : Ref sig .tc := ⟨.hbm, 1039, rfl⟩
abbrev main_cst_225 : Ref sig .tc := ⟨.hbm, 1040, rfl⟩
abbrev main_v628 : Ref sig .tc := ⟨.hbm, 1041, rfl⟩
abbrev main_v629 : Ref sig .tc := ⟨.hbm, 1042, rfl⟩
abbrev main_cst_226 : Ref sig .tc := ⟨.hbm, 1043, rfl⟩
abbrev main_v630 : Ref sig .tc := ⟨.hbm, 1044, rfl⟩
abbrev main_v631 : Ref sig .tc := ⟨.hbm, 1045, rfl⟩
abbrev main_cst_227 : Ref sig .tc := ⟨.hbm, 1046, rfl⟩
abbrev main_v632 : Ref sig .tc := ⟨.hbm, 1047, rfl⟩
abbrev main_v633 : Ref sig .tc := ⟨.hbm, 1048, rfl⟩
abbrev main_cst_228 : Ref sig .tc := ⟨.hbm, 1049, rfl⟩
abbrev main_v634 : Ref sig .tc := ⟨.hbm, 1050, rfl⟩
abbrev main_v635 : Ref sig .tc := ⟨.hbm, 1051, rfl⟩
abbrev main_cst_229 : Ref sig .tc := ⟨.hbm, 1052, rfl⟩
abbrev main_v636 : Ref sig .tc := ⟨.hbm, 1053, rfl⟩
abbrev main_v637 : Ref sig .tc := ⟨.hbm, 1054, rfl⟩
abbrev main_cst_230 : Ref sig .tc := ⟨.hbm, 1055, rfl⟩
abbrev main_v638 : Ref sig .tc := ⟨.hbm, 1056, rfl⟩
abbrev main_v639 : Ref sig .tc := ⟨.hbm, 1057, rfl⟩
abbrev main_cst_231 : Ref sig .tc := ⟨.hbm, 1058, rfl⟩
abbrev main_v640 : Ref sig .tc := ⟨.hbm, 1059, rfl⟩
abbrev main_v641 : Ref sig .tc := ⟨.hbm, 1060, rfl⟩
abbrev main_cst_232 : Ref sig .tc := ⟨.hbm, 1061, rfl⟩
abbrev main_v642 : Ref sig .tc := ⟨.hbm, 1062, rfl⟩
abbrev main_v643 : Ref sig .tc := ⟨.hbm, 1063, rfl⟩
abbrev main_cst_233 : Ref sig .tc := ⟨.hbm, 1064, rfl⟩
abbrev main_v644 : Ref sig .tc := ⟨.hbm, 1065, rfl⟩
abbrev main_v645 : Ref sig .tc := ⟨.hbm, 1066, rfl⟩
abbrev main_cst_234 : Ref sig .tc := ⟨.hbm, 1067, rfl⟩
abbrev main_v646 : Ref sig .tc := ⟨.hbm, 1068, rfl⟩
abbrev main_v647 : Ref sig .tc := ⟨.hbm, 1069, rfl⟩
abbrev main_cst_235 : Ref sig .tc := ⟨.hbm, 1070, rfl⟩
abbrev main_v648 : Ref sig .tc := ⟨.hbm, 1071, rfl⟩
abbrev main_v649 : Ref sig .tc := ⟨.hbm, 1072, rfl⟩
abbrev main_cst_236 : Ref sig .tc := ⟨.hbm, 1073, rfl⟩
abbrev main_v650 : Ref sig .tc := ⟨.hbm, 1074, rfl⟩
abbrev main_v651 : Ref sig .tc := ⟨.hbm, 1075, rfl⟩
abbrev main_v652 : Ref sig .tc := ⟨.hbm, 1076, rfl⟩
abbrev main_cst_237 : Ref sig .tc := ⟨.hbm, 1077, rfl⟩
abbrev main_v653 : Ref sig .tc := ⟨.hbm, 1078, rfl⟩
abbrev main_v654 : Ref sig .tc := ⟨.hbm, 1079, rfl⟩
abbrev main_v655 : Ref sig .tc := ⟨.hbm, 1080, rfl⟩
abbrev main_v656 : Ref sig .tc := ⟨.hbm, 1081, rfl⟩
abbrev main_v657 : Ref sig .tc := ⟨.hbm, 1082, rfl⟩
abbrev main_v658 : Ref sig .tc := ⟨.hbm, 1083, rfl⟩
abbrev main_v659 : Ref sig .tc := ⟨.hbm, 1084, rfl⟩
abbrev main_v660 : Ref sig .tc := ⟨.hbm, 1085, rfl⟩
abbrev main_v661 : Ref sig .tc := ⟨.hbm, 1086, rfl⟩
abbrev main_v662 : Ref sig .tc := ⟨.hbm, 1087, rfl⟩
abbrev main_v663 : Ref sig .tc := ⟨.hbm, 1088, rfl⟩
abbrev main_v664 : Ref sig .tc := ⟨.hbm, 1089, rfl⟩
abbrev main_v665 : Ref sig .tc := ⟨.hbm, 1090, rfl⟩
abbrev main_v666 : Ref sig .tc := ⟨.hbm, 1091, rfl⟩
abbrev main_v667 : Ref sig .tc := ⟨.hbm, 1092, rfl⟩
abbrev main_v668 : Ref sig .tc := ⟨.hbm, 1093, rfl⟩
abbrev main_v669 : Ref sig .tc := ⟨.hbm, 1094, rfl⟩
abbrev main_v670 : Ref sig .tc := ⟨.hbm, 1095, rfl⟩
abbrev main_v671 : Ref sig .tc := ⟨.hbm, 1096, rfl⟩
abbrev main_v672 : Ref sig .tc := ⟨.hbm, 1097, rfl⟩
abbrev main_v673 : Ref sig .tc := ⟨.hbm, 1098, rfl⟩
abbrev main_v674 : Ref sig .tc := ⟨.hbm, 1099, rfl⟩
abbrev main_v675 : Ref sig .tc := ⟨.hbm, 1100, rfl⟩
abbrev main_v676 : Ref sig .tc := ⟨.hbm, 1101, rfl⟩
abbrev main_v677 : Ref sig .tc := ⟨.hbm, 1102, rfl⟩
abbrev main_cst_238 : Ref sig .tc := ⟨.hbm, 1103, rfl⟩
abbrev main_call40_v0 : Ref sig .tc := ⟨.hbm, 1104, rfl⟩
abbrev main_call40_v1 : Ref sig .tc := ⟨.hbm, 1105, rfl⟩
abbrev main_v678 : Ref sig .tc := ⟨.hbm, 1106, rfl⟩
abbrev main_v679 : Ref sig .tc := ⟨.hbm, 1107, rfl⟩
abbrev main_cst_239 : Ref sig .tc := ⟨.hbm, 1108, rfl⟩
abbrev main_call41_v0 : Ref sig .tc := ⟨.hbm, 1109, rfl⟩
abbrev main_call41_v1 : Ref sig .tc := ⟨.hbm, 1110, rfl⟩
abbrev main_v680 : Ref sig .tc := ⟨.hbm, 1111, rfl⟩
abbrev main_cst_240 : Ref sig .tc := ⟨.hbm, 1112, rfl⟩
abbrev main_v681 : Ref sig .tc := ⟨.hbm, 1113, rfl⟩
abbrev main_v682 : Ref sig .tc := ⟨.hbm, 1114, rfl⟩
abbrev main_cst_241 : Ref sig .tc := ⟨.hbm, 1115, rfl⟩
abbrev main_v683 : Ref sig .tc := ⟨.hbm, 1116, rfl⟩
abbrev main_v684 : Ref sig .tc := ⟨.hbm, 1117, rfl⟩
abbrev main_cst_242 : Ref sig .tc := ⟨.hbm, 1118, rfl⟩
abbrev main_v685 : Ref sig .tc := ⟨.hbm, 1119, rfl⟩
abbrev main_v686 : Ref sig .tc := ⟨.hbm, 1120, rfl⟩
abbrev main_cst_243 : Ref sig .tc := ⟨.hbm, 1121, rfl⟩
abbrev main_cst_244 : Ref sig .tc := ⟨.hbm, 1122, rfl⟩
abbrev main_call42_v0 : Ref sig .tc := ⟨.hbm, 1123, rfl⟩
abbrev main_call42_v1 : Ref sig .tc := ⟨.hbm, 1124, rfl⟩
abbrev main_call42_v2 : Ref sig .tc := ⟨.hbm, 1125, rfl⟩
abbrev main_call42_v3 : Ref sig .tc := ⟨.hbm, 1126, rfl⟩
abbrev main_call42_v4 : Ref sig .tc := ⟨.hbm, 1127, rfl⟩
abbrev main_v687 : Ref sig .tc := ⟨.hbm, 1128, rfl⟩
abbrev main_cst_245 : Ref sig .tc := ⟨.hbm, 1129, rfl⟩
abbrev main_v688 : Ref sig .tc := ⟨.hbm, 1130, rfl⟩
abbrev main_v689 : Ref sig .tc := ⟨.hbm, 1131, rfl⟩
abbrev main_cst_246 : Ref sig .tc := ⟨.hbm, 1132, rfl⟩
abbrev main_v690 : Ref sig .tc := ⟨.hbm, 1133, rfl⟩
abbrev main_v691 : Ref sig .tc := ⟨.hbm, 1134, rfl⟩
abbrev main_cst_247 : Ref sig .tc := ⟨.hbm, 1135, rfl⟩
abbrev main_v692 : Ref sig .tc := ⟨.hbm, 1136, rfl⟩
abbrev main_v693 : Ref sig .tc := ⟨.hbm, 1137, rfl⟩
abbrev main_cst_248 : Ref sig .tc := ⟨.hbm, 1138, rfl⟩
abbrev main_cst_249 : Ref sig .tc := ⟨.hbm, 1139, rfl⟩
abbrev main_call43_v0 : Ref sig .tc := ⟨.hbm, 1140, rfl⟩
abbrev main_call43_v1 : Ref sig .tc := ⟨.hbm, 1141, rfl⟩
abbrev main_call43_v2 : Ref sig .tc := ⟨.hbm, 1142, rfl⟩
abbrev main_call43_v3 : Ref sig .tc := ⟨.hbm, 1143, rfl⟩
abbrev main_call43_v4 : Ref sig .tc := ⟨.hbm, 1144, rfl⟩
abbrev main_v694 : Ref sig .tc := ⟨.hbm, 1145, rfl⟩
abbrev main_v695 : Ref sig .tc := ⟨.hbm, 1146, rfl⟩
abbrev main_v696 : Ref sig .tc := ⟨.hbm, 1147, rfl⟩
abbrev main_v697 : Ref sig .tc := ⟨.hbm, 1148, rfl⟩
abbrev main_v698 : Ref sig .tc := ⟨.hbm, 1149, rfl⟩
abbrev main_c_250 : Ref sig .tc := ⟨.hbm, 1150, rfl⟩
abbrev main_c_251 : Ref sig .tc := ⟨.hbm, 1151, rfl⟩
abbrev main_call44_v0 : Ref sig .tc := ⟨.hbm, 1152, rfl⟩
abbrev main_call44_v1 : Ref sig .tc := ⟨.hbm, 1153, rfl⟩
abbrev main_call44_v2 : Ref sig .tc := ⟨.hbm, 1154, rfl⟩
abbrev main_call44_v3 : Ref sig .tc := ⟨.hbm, 1155, rfl⟩
abbrev main_call44_v4 : Ref sig .tc := ⟨.hbm, 1156, rfl⟩
abbrev main_v699 : Ref sig .tc := ⟨.hbm, 1157, rfl⟩
abbrev main_v700 : Ref sig .tc := ⟨.hbm, 1158, rfl⟩
abbrev main_cst_252 : Ref sig .tc := ⟨.hbm, 1159, rfl⟩
abbrev main_v701 : Ref sig .tc := ⟨.hbm, 1160, rfl⟩
abbrev main_v702 : Ref sig .tc := ⟨.hbm, 1161, rfl⟩
abbrev main_c_253 : Ref sig .tc := ⟨.hbm, 1162, rfl⟩
abbrev main_c_254 : Ref sig .tc := ⟨.hbm, 1163, rfl⟩
abbrev main_call45_v0 : Ref sig .tc := ⟨.hbm, 1164, rfl⟩
abbrev main_call45_v1 : Ref sig .tc := ⟨.hbm, 1165, rfl⟩
abbrev main_call45_v2 : Ref sig .tc := ⟨.hbm, 1166, rfl⟩
abbrev main_call45_v3 : Ref sig .tc := ⟨.hbm, 1167, rfl⟩
abbrev main_call45_v4 : Ref sig .tc := ⟨.hbm, 1168, rfl⟩
abbrev main_v703 : Ref sig .tc := ⟨.hbm, 1169, rfl⟩
abbrev main_v704 : Ref sig .tc := ⟨.hbm, 1170, rfl⟩
abbrev main_c_255 : Ref sig .tc := ⟨.hbm, 1171, rfl⟩
abbrev main_c_256 : Ref sig .tc := ⟨.hbm, 1172, rfl⟩
abbrev main_call46_v0 : Ref sig .tc := ⟨.hbm, 1173, rfl⟩
abbrev main_call46_v1 : Ref sig .tc := ⟨.hbm, 1174, rfl⟩
abbrev main_call46_v2 : Ref sig .tc := ⟨.hbm, 1175, rfl⟩
abbrev main_call46_v3 : Ref sig .tc := ⟨.hbm, 1176, rfl⟩
abbrev main_call46_v4 : Ref sig .tc := ⟨.hbm, 1177, rfl⟩
abbrev main_v705 : Ref sig .tc := ⟨.hbm, 1178, rfl⟩
abbrev main_v706 : Ref sig .tc := ⟨.hbm, 1179, rfl⟩
abbrev main_cst_257 : Ref sig .tc := ⟨.hbm, 1180, rfl⟩
abbrev main_v707 : Ref sig .tc := ⟨.hbm, 1181, rfl⟩
abbrev main_v708 : Ref sig .tc := ⟨.hbm, 1182, rfl⟩
abbrev main_c_258 : Ref sig .tc := ⟨.hbm, 1183, rfl⟩
abbrev main_c_259 : Ref sig .tc := ⟨.hbm, 1184, rfl⟩
abbrev main_call47_v0 : Ref sig .tc := ⟨.hbm, 1185, rfl⟩
abbrev main_call47_v1 : Ref sig .tc := ⟨.hbm, 1186, rfl⟩
abbrev main_call47_v2 : Ref sig .tc := ⟨.hbm, 1187, rfl⟩
abbrev main_call47_v3 : Ref sig .tc := ⟨.hbm, 1188, rfl⟩
abbrev main_call47_v4 : Ref sig .tc := ⟨.hbm, 1189, rfl⟩
abbrev main_v709 : Ref sig .tc := ⟨.hbm, 1190, rfl⟩
abbrev main_v710 : Ref sig .tc := ⟨.hbm, 1191, rfl⟩
abbrev main_c_260 : Ref sig .tc := ⟨.hbm, 1192, rfl⟩
abbrev main_v711 : Ref sig .tc := ⟨.hbm, 1193, rfl⟩
abbrev main_v712 : Ref sig .tc := ⟨.hbm, 1194, rfl⟩
abbrev main_c_261 : Ref sig .tc := ⟨.hbm, 1195, rfl⟩
abbrev main_v713 : Ref sig .tc := ⟨.hbm, 1196, rfl⟩
abbrev main_v714 : Ref sig .tc := ⟨.hbm, 1197, rfl⟩
abbrev main_v715 : Ref sig .tc := ⟨.hbm, 1198, rfl⟩
abbrev main_c_262 : Ref sig .tc := ⟨.hbm, 1199, rfl⟩
abbrev main_v716 : Ref sig .tc := ⟨.hbm, 1200, rfl⟩
abbrev main_v717 : Ref sig .tc := ⟨.hbm, 1201, rfl⟩
abbrev main_c_263 : Ref sig .tc := ⟨.hbm, 1202, rfl⟩
abbrev main_v718 : Ref sig .tc := ⟨.hbm, 1203, rfl⟩
abbrev main_v719 : Ref sig .tc := ⟨.hbm, 1204, rfl⟩
abbrev main_v720 : Ref sig .tc := ⟨.hbm, 1205, rfl⟩
abbrev main_v721 : Ref sig .tc := ⟨.hbm, 1206, rfl⟩
abbrev main_v722 : Ref sig .tc := ⟨.hbm, 1207, rfl⟩
abbrev main_v723 : Ref sig .tc := ⟨.hbm, 1208, rfl⟩
abbrev main_v724 : Ref sig .tc := ⟨.hbm, 1209, rfl⟩
abbrev main_c_264 : Ref sig .tc := ⟨.hbm, 1210, rfl⟩
abbrev main_v725 : Ref sig .tc := ⟨.hbm, 1211, rfl⟩
abbrev main_v726 : Ref sig .tc := ⟨.hbm, 1212, rfl⟩
abbrev main_c_265 : Ref sig .tc := ⟨.hbm, 1213, rfl⟩
abbrev main_v727 : Ref sig .tc := ⟨.hbm, 1214, rfl⟩
abbrev main_v728 : Ref sig .tc := ⟨.hbm, 1215, rfl⟩
abbrev main_v729 : Ref sig .tc := ⟨.hbm, 1216, rfl⟩
abbrev main_c_266 : Ref sig .tc := ⟨.hbm, 1217, rfl⟩
abbrev main_v730 : Ref sig .tc := ⟨.hbm, 1218, rfl⟩
abbrev main_v731 : Ref sig .tc := ⟨.hbm, 1219, rfl⟩
abbrev main_c_267 : Ref sig .tc := ⟨.hbm, 1220, rfl⟩
abbrev main_v732 : Ref sig .tc := ⟨.hbm, 1221, rfl⟩
abbrev main_v733 : Ref sig .tc := ⟨.hbm, 1222, rfl⟩
abbrev main_v734 : Ref sig .tc := ⟨.hbm, 1223, rfl⟩
abbrev main_v735 : Ref sig .tc := ⟨.hbm, 1224, rfl⟩
abbrev main_v736 : Ref sig .tc := ⟨.hbm, 1225, rfl⟩
abbrev main_v737 : Ref sig .tc := ⟨.hbm, 1226, rfl⟩
abbrev main_v738 : Ref sig .tc := ⟨.hbm, 1227, rfl⟩
abbrev main_c_268 : Ref sig .tc := ⟨.hbm, 1228, rfl⟩
abbrev main_v739 : Ref sig .tc := ⟨.hbm, 1229, rfl⟩
abbrev main_v740 : Ref sig .tc := ⟨.hbm, 1230, rfl⟩
abbrev main_c_269 : Ref sig .tc := ⟨.hbm, 1231, rfl⟩
abbrev main_v741 : Ref sig .tc := ⟨.hbm, 1232, rfl⟩
abbrev main_v742 : Ref sig .tc := ⟨.hbm, 1233, rfl⟩
abbrev main_v743 : Ref sig .tc := ⟨.hbm, 1234, rfl⟩
abbrev main_c_270 : Ref sig .tc := ⟨.hbm, 1235, rfl⟩
abbrev main_v744 : Ref sig .tc := ⟨.hbm, 1236, rfl⟩
abbrev main_v745 : Ref sig .tc := ⟨.hbm, 1237, rfl⟩
abbrev main_c_271 : Ref sig .tc := ⟨.hbm, 1238, rfl⟩
abbrev main_v746 : Ref sig .tc := ⟨.hbm, 1239, rfl⟩
abbrev main_v747 : Ref sig .tc := ⟨.hbm, 1240, rfl⟩
abbrev main_v748 : Ref sig .tc := ⟨.hbm, 1241, rfl⟩
abbrev main_v749 : Ref sig .tc := ⟨.hbm, 1242, rfl⟩
abbrev main_v750 : Ref sig .tc := ⟨.hbm, 1243, rfl⟩
abbrev main_v751 : Ref sig .tc := ⟨.hbm, 1244, rfl⟩
abbrev main_v752 : Ref sig .tc := ⟨.hbm, 1245, rfl⟩
abbrev main_c_272 : Ref sig .tc := ⟨.hbm, 1246, rfl⟩
abbrev main_v753 : Ref sig .tc := ⟨.hbm, 1247, rfl⟩
abbrev main_v754 : Ref sig .tc := ⟨.hbm, 1248, rfl⟩
abbrev main_c_273 : Ref sig .tc := ⟨.hbm, 1249, rfl⟩
abbrev main_v755 : Ref sig .tc := ⟨.hbm, 1250, rfl⟩
abbrev main_v756 : Ref sig .tc := ⟨.hbm, 1251, rfl⟩
abbrev main_v757 : Ref sig .tc := ⟨.hbm, 1252, rfl⟩
abbrev main_c_274 : Ref sig .tc := ⟨.hbm, 1253, rfl⟩
abbrev main_v758 : Ref sig .tc := ⟨.hbm, 1254, rfl⟩
abbrev main_v759 : Ref sig .tc := ⟨.hbm, 1255, rfl⟩
abbrev main_c_275 : Ref sig .tc := ⟨.hbm, 1256, rfl⟩
abbrev main_v760 : Ref sig .tc := ⟨.hbm, 1257, rfl⟩
abbrev main_v761 : Ref sig .tc := ⟨.hbm, 1258, rfl⟩
abbrev main_v762 : Ref sig .tc := ⟨.hbm, 1259, rfl⟩
abbrev main_v763 : Ref sig .tc := ⟨.hbm, 1260, rfl⟩
abbrev main_v764 : Ref sig .tc := ⟨.hbm, 1261, rfl⟩
abbrev main_v765 : Ref sig .tc := ⟨.hbm, 1262, rfl⟩
abbrev main_v766 : Ref sig .tc := ⟨.hbm, 1263, rfl⟩
abbrev main_cst_276 : Ref sig .tc := ⟨.hbm, 1264, rfl⟩
abbrev main_v767 : Ref sig .tc := ⟨.hbm, 1265, rfl⟩
abbrev main_v768 : Ref sig .tc := ⟨.hbm, 1266, rfl⟩
abbrev main_v769 : Ref sig .tc := ⟨.hbm, 1267, rfl⟩
abbrev main_v770 : Ref sig .tc := ⟨.hbm, 1268, rfl⟩
abbrev main_v771 : Ref sig .tc := ⟨.hbm, 1269, rfl⟩
abbrev main_cst_277 : Ref sig .tc := ⟨.hbm, 1270, rfl⟩
abbrev main_v772 : Ref sig .tc := ⟨.hbm, 1271, rfl⟩
abbrev main_v773 : Ref sig .tc := ⟨.hbm, 1272, rfl⟩
abbrev main_v774 : Ref sig .tc := ⟨.hbm, 1273, rfl⟩
abbrev main_v775 : Ref sig .tc := ⟨.hbm, 1274, rfl⟩
abbrev main_v776 : Ref sig .tc := ⟨.hbm, 1275, rfl⟩
abbrev main_v777 : Ref sig .tc := ⟨.hbm, 1276, rfl⟩
abbrev main_v778 : Ref sig .tc := ⟨.hbm, 1277, rfl⟩
abbrev main_v779 : Ref sig .tc := ⟨.hbm, 1278, rfl⟩
abbrev main_cst_278 : Ref sig .tc := ⟨.hbm, 1279, rfl⟩
abbrev main_v780 : Ref sig .tc := ⟨.hbm, 1280, rfl⟩
abbrev main_v781 : Ref sig .tc := ⟨.hbm, 1281, rfl⟩
abbrev main_v782 : Ref sig .tc := ⟨.hbm, 1282, rfl⟩
abbrev main_v783 : Ref sig .tc := ⟨.hbm, 1283, rfl⟩
abbrev main_v784 : Ref sig .tc := ⟨.hbm, 1284, rfl⟩
abbrev main_v785 : Ref sig .tc := ⟨.hbm, 1285, rfl⟩
abbrev main_cst_279 : Ref sig .tc := ⟨.hbm, 1286, rfl⟩
abbrev main_v786 : Ref sig .tc := ⟨.hbm, 1287, rfl⟩
abbrev main_v787 : Ref sig .tc := ⟨.hbm, 1288, rfl⟩
abbrev main_v788 : Ref sig .tc := ⟨.hbm, 1289, rfl⟩
abbrev main_v789 : Ref sig .tc := ⟨.hbm, 1290, rfl⟩
abbrev main_v790 : Ref sig .tc := ⟨.hbm, 1291, rfl⟩
abbrev main_v791 : Ref sig .tc := ⟨.hbm, 1292, rfl⟩
abbrev main_v792 : Ref sig .tc := ⟨.hbm, 1293, rfl⟩
abbrev main_v793 : Ref sig .tc := ⟨.hbm, 1294, rfl⟩
abbrev main_v794 : Ref sig .tc := ⟨.hbm, 1295, rfl⟩
abbrev main_v795 : Ref sig .tc := ⟨.hbm, 1296, rfl⟩
abbrev main_v796 : Ref sig .tc := ⟨.hbm, 1297, rfl⟩
abbrev main_v797 : Ref sig .tc := ⟨.hbm, 1298, rfl⟩
abbrev main_v798 : Ref sig .tc := ⟨.hbm, 1299, rfl⟩
abbrev main_v799 : Ref sig .tc := ⟨.hbm, 1300, rfl⟩
abbrev main_v800 : Ref sig .tc := ⟨.hbm, 1301, rfl⟩
abbrev main_v801 : Ref sig .tc := ⟨.hbm, 1302, rfl⟩
abbrev main_v802 : Ref sig .tc := ⟨.hbm, 1303, rfl⟩
abbrev main_v803 : Ref sig .tc := ⟨.hbm, 1304, rfl⟩
abbrev main_cst_280 : Ref sig .tc := ⟨.hbm, 1305, rfl⟩
abbrev main_v804 : Ref sig .tc := ⟨.hbm, 1306, rfl⟩
abbrev main_cst_281 : Ref sig .tc := ⟨.hbm, 1307, rfl⟩
abbrev main_v805 : Ref sig .tc := ⟨.hbm, 1308, rfl⟩
abbrev main_v806 : Ref sig .tc := ⟨.hbm, 1309, rfl⟩
abbrev main_v807 : Ref sig .tc := ⟨.hbm, 1310, rfl⟩
abbrev main_cst_282 : Ref sig .tc := ⟨.hbm, 1311, rfl⟩
abbrev main_v808 : Ref sig .tc := ⟨.hbm, 1312, rfl⟩
abbrev main_cst_283 : Ref sig .tc := ⟨.hbm, 1313, rfl⟩
abbrev main_v809 : Ref sig .tc := ⟨.hbm, 1314, rfl⟩
abbrev main_v810 : Ref sig .tc := ⟨.hbm, 1315, rfl⟩
abbrev main_cst_284 : Ref sig .tc := ⟨.hbm, 1316, rfl⟩
abbrev main_v811 : Ref sig .tc := ⟨.hbm, 1317, rfl⟩

abbrev nD : Nat := 1
abbrev τ : Topo := Topo.v7x

variable {F : FTy → Type} [FloatOps F]
-- ==== Proof.RefReads.lean ====
/-
  The reference's two kinds of lookup: the landmarks of one eye, taken from the list of all landmarks, and one pixel of
  an image for every place of the patch.
-/
module

public import proofs.«01_k».proof.Proof.Gen.ReferenceIdeal
public import Idealize.ShloMosaic.Lib.Pointwise
public import Idealize.ShloMosaic.Lib.DynamicIndex

@[expose] public section

noncomputable section

namespace Cert.Gaze

open Idealize.ShloMosaic
open Cert.ReferenceIdeal Cert.ReferenceIdeal.Gen

/-- A lookup of landmarks reads, at batch `b`, number `k` and axis `a`, the landmark that entry `k` of the list of
    numbers names. -/
theorem landmark_lookup (x : Vec Idealize.ShloMosaic.Ideal S64x68x2 .f32) (idx : IVec S6x1 32) (b : Fin 64) (k : Fin 6)
    (a : Fin 2) (n : Fin 68) (h : idx (ix2 k 0) = BitVec.ofNat 32 n.val) :
    Host.gather gather_S64x68x2_S6x1_S64x6x2_02_1_n_n_1_1_6412 x idx (ix3 b k a) = x (ix3 b n a) := by
  have hn := n.isLt
  have hs : GatherDims.siIdx gather_S64x68x2_S6x1_S64x6x2_02_1_n_n_1_1_6412 (ix3 b k a) ⟨0, by decide⟩ = ix2 k 0 := by
    funext d
    refine Fin.ext ?_
    match d with
    | ⟨0, _⟩ => rfl
    | ⟨1, _⟩ => rfl
  have e : (idx (ix2 k 0)).toInt.toNat = n.val := by
    rw [h, toInt_ofNat_of_lt (by omega)]
    rfl
  unfold Host.gather
  refine congrArg x (funext fun d => Fin.ext ?_)
  match d with
  | ⟨0, _⟩ => exact (Nat.zero_add _).trans rfl
  | ⟨1, _⟩ =>
    show min (idx (GatherDims.siIdx _ _ ⟨0, by decide⟩)).toInt.toNat 67 + 0 + 0 = n.val
    rw [hs, e]
    omega
  | ⟨2, _⟩ => exact (Nat.zero_add _).trans rfl

/-- A lookup of pixels reads, at batch `b`, channel `c` and place `(i, j)`, the pixel whose row and column stand at that
    place of the array of pixel numbers. -/
theorem pixel_lookup (x : Vec Idealize.ShloMosaic.Ideal S64x3x512x512 .f32) (idx : IVec S64x32x32x2 32) (b : Fin 64)
    (c : Fin 3) (i j : Fin 32) (y z : Fin 512) (hy : idx (ix4 b i j 0) = BitVec.ofNat 32 y.val)
    (hz : idx (ix4 b i j 1) = BitVec.ofNat 32 z.val) :
    Host.gather gather_S64x3x512x512_S64x32x32x2_S64x3x32x32_1_23_0_0_23_3_1311 x idx (ix4 b c i j) = x (ix4 b c y z) := by
  have hyl := y.isLt
  have hzl := z.isLt
  have hs : ∀ t : Fin 2, GatherDims.siIdx gather_S64x3x512x512_S64x32x32x2_S64x3x32x32_1_23_0_0_23_3_1311 (ix4 b c i j) t
      = ix4 b i j t := by
    intro t
    funext d
    refine Fin.ext ?_
    match d with
    | ⟨0, _⟩ => rfl
    | ⟨1, _⟩ => rfl
    | ⟨2, _⟩ => rfl
    | ⟨3, _⟩ => rfl
  have e0 : (idx (ix4 b i j 0)).toInt.toNat = y.val := by
    rw [hy, toInt_ofNat_of_lt (by omega)]
    rfl
  have e1 : (idx (ix4 b i j 1)).toInt.toNat = z.val := by
    rw [hz, toInt_ofNat_of_lt (by omega)]
    rfl
  unfold Host.gather
  refine congrArg x (funext fun d => Fin.ext ?_)
  match d with
  | ⟨0, _⟩ => exact (congrArg (· + 0) (Nat.zero_add _)).trans rfl
  | ⟨1, _⟩ => exact (Nat.zero_add _).trans rfl
  | ⟨2, _⟩ =>
    show min (idx (GatherDims.siIdx gather_S64x3x512x512_S64x32x32x2_S64x3x32x32_1_23_0_0_23_3_1311
      (ix4 b c i j) (⟨0, by decide⟩ : Fin 2))).toInt.toNat 511 + 0 + 0 = y.val
    rw [hs]
    exact (congrArg (fun n => min n 511 + 0 + 0) e0).trans (by omega)
  | ⟨3, _⟩ =>
    show min (idx (GatherDims.siIdx gather_S64x3x512x512_S64x32x32x2_S64x3x32x32_1_23_0_0_23_3_1311
      (ix4 b c i j) (⟨1, by decide⟩ : Fin 2))).toInt.toNat 511 + 0 + 0 = z.val
    rw [hs]
    exact (congrArg (fun n => min n 511 + 0 + 0) e1).trans (by omega)

end Cert.Gaze
-- ==== Proof.Scalar.lean ====
/-
  The arithmetic of one bilinear sample, on extended reals.
-/
module

public import Idealize.ShloMosaic.Lib.ValueIdx
public import Mathlib.Tactic.Ring
public import Mathlib.Tactic.Linarith

@[expose] public section

namespace Cert.Gaze

/-- The value is one of the two infinities. -/
def Inf (x : EReal) : Prop := x = ⊤ ∨ x = ⊥

theorem inf_coe (r : ℝ) : ¬ Inf (r : EReal) := by simp [Inf]

/-- A value that is not infinite is a real number. -/
theorem exists_coe {x : EReal} (h : ¬ Inf x) : ∃ r : ℝ, x = r := by
  induction x using EReal.rec with
  | bot => exact absurd (Or.inr rfl) h
  | top => exact absurd (Or.inl rfl) h
  | coe r => exact ⟨r, rfl⟩

/-- A sum is infinite exactly when a term is. -/
theorem inf_add (x y : EReal) : Inf (x + y) ↔ Inf x ∨ Inf y := by
  induction x using EReal.rec <;> induction y using EReal.rec <;>
    simp [Inf, ← EReal.coe_add]

/-- A difference is infinite exactly when a term is. -/
theorem inf_sub (x y : EReal) : Inf (x - y) ↔ Inf x ∨ Inf y := by
  rw [sub_eq_add_neg, inf_add]
  simp [Inf, or_comm]

/-- A real multiple is infinite exactly when the factor is not zero and the value is infinite. -/
theorem inf_mul (x : EReal) (r : ℝ) : Inf (x * r) ↔ r ≠ 0 ∧ Inf x := by
  rcases lt_trichotomy r 0 with h | h | h
  · induction x using EReal.rec <;>
      simp [Inf, ← EReal.coe_mul, EReal.top_mul_coe_of_neg h, EReal.bot_mul_coe_of_neg h, h.ne]
  · subst h; simp [Inf]
  · induction x using EReal.rec <;>
      simp [Inf, ← EReal.coe_mul, EReal.top_mul_coe_of_pos h, EReal.bot_mul_coe_of_pos h, h.ne']

/-- The absolute value. -/
noncomputable def eabs (x : EReal) : EReal := max x (-x)

/-- An infinite value has the absolute value `⊤`. -/
theorem abs_of_inf {x : EReal} (h : Inf x) : eabs x = ⊤ := by
  rcases h with rfl | rfl <;> simp [eabs]

/-- Two values that are infinite together, and equal where both are real, have one absolute value. -/
theorem abs_congr {x y : EReal} (h : Inf x ↔ Inf y) (h' : ¬ Inf x → x = y) :
    eabs x = eabs y := by
  by_cases hx : Inf x
  · rw [abs_of_inf hx, abs_of_inf (h.1 hx)]
  · rw [h' hx]

/-- The sample the kernel takes of one difference image, whose four corner values are given: rows first, then
    columns. -/
noncomputable def mix (u v : ℝ) (a b c d : EReal) : EReal :=
  (((1 - v : ℝ) : EReal) * a + (v : EReal) * c) * ((1 - u : ℝ) : EReal)
    + (((1 - v : ℝ) : EReal) * b + (v : EReal) * d) * (u : EReal)

/-- The sample the reference takes of one image, whose four corner values are given. -/
noncomputable def bil (u v : ℝ) (a b c d : EReal) : EReal :=
  a * ((1 - u : ℝ) : EReal) * ((1 - v : ℝ) : EReal) + b * (u : EReal) * ((1 - v : ℝ) : EReal)
    + c * ((1 - u : ℝ) : EReal) * (v : EReal) + d * (u : EReal) * (v : EReal)

/-- Sampling the difference of two images and subtracting two samples give one absolute value, whatever the pixels
    are. -/
theorem abs_mix_eq (u v : ℝ) (hu : u < 1) (hv : v < 1) (a b c d a' b' c' d' : EReal) :
    eabs (mix u v (a - a') (b - b') (c - c') (d - d')) = eabs (bil u v a b c d - bil u v a' b' c' d') := by
  have hu' : 1 - u ≠ 0 := by linarith
  have hv' : 1 - v ≠ 0 := by linarith
  apply abs_congr
  · simp only [mix, bil, mul_comm ((1 - v : ℝ) : EReal) (_ - _), mul_comm (v : EReal) (_ - _), inf_add, inf_sub,
      inf_mul, ne_eq, hu', hv', not_false_eq_true, true_and]
    tauto
  · intro h
    simp only [mix, mul_comm ((1 - v : ℝ) : EReal) (_ - _), mul_comm (v : EReal) (_ - _), inf_add, inf_sub,
      inf_mul, ne_eq, hu', hv', not_false_eq_true, true_and, not_or, not_and] at h
    obtain ⟨⟨⟨ha, ha'⟩, hc⟩, hb⟩ := h
    obtain ⟨a, rfl⟩ := exists_coe ha
    obtain ⟨a', rfl⟩ := exists_coe ha'
    by_cases u0 : u = 0
    · subst u0
      by_cases v0 : v = 0
      · subst v0
        simp [mix, bil]
      · obtain ⟨hc, hc'⟩ := hc v0
        obtain ⟨c, rfl⟩ := exists_coe hc
        obtain ⟨c', rfl⟩ := exists_coe hc'
        simp only [mix, bil, EReal.coe_zero, mul_zero, zero_mul, add_zero]
        norm_cast
        ring
    · obtain ⟨⟨hb, hb'⟩, hd⟩ := hb u0
      obtain ⟨b, rfl⟩ := exists_coe hb
      obtain ⟨b', rfl⟩ := exists_coe hb'
      by_cases v0 : v = 0
      · subst v0
        simp only [mix, bil, EReal.coe_zero, mul_zero, zero_mul, add_zero]
        norm_cast
        ring
      · obtain ⟨hc, hc'⟩ := hc v0
        obtain ⟨hd, hd'⟩ := hd v0
        obtain ⟨c, rfl⟩ := exists_coe hc
        obtain ⟨c', rfl⟩ := exists_coe hc'
        obtain ⟨d, rfl⟩ := exists_coe hd
        obtain ⟨d', rfl⟩ := exists_coe hd'
        simp only [mix, bil]
        norm_cast
        ring

end Cert.Gaze
-- ==== Proof.Taps.lean ====
/-
  The interpolation weights of one axis: at a real coordinate between 0 and 511 the kernel's row of 512 weights has its
  whole mass on the two neighbouring pixels, so a weighted sum over the row is the two-point interpolation.
-/
module

public import proofs.«01_k».proof.Proof.Scalar
public import Idealize.ShloMosaic.Lib.Pointwise

@[expose] public section

noncomputable section

namespace Cert.Gaze

open Idealize.ShloMosaic

/-- The weight the kernel's comparison with the pixel numbers puts on pixel `k` at the coordinate `p`. -/
def tap (p : EReal) (k : Fin 512) : EReal :=
  Scalar.select
        (IntOp.cmpi CmpIPredicate.eq (BitVec.ofNat 32 k.val)
          (FloatOps.fptosi (F := Ideal) (φ := .f32) 32 (Ideal.liftRound Int.floor p)))
        (1 - (p - Ideal.liftRound Int.floor p)) 0 +
      Scalar.select
        (IntOp.cmpi CmpIPredicate.eq (BitVec.ofNat 32 k.val)
          (IntOp.minsi (IntOp.addi (FloatOps.fptosi (F := Ideal) (φ := .f32) 32 (Ideal.liftRound Int.floor p)) 1#32) 511#32))
        (p - Ideal.liftRound Int.floor p) 0

/-- The pixel at or below the coordinate `r`. -/
def lo (r : ℝ) : ℕ := min ⌊r⌋.toNat 511

/-- The next pixel, the last one being its own neighbour. -/
def hi (r : ℝ) : ℕ := min (⌊r⌋.toNat + 1) 511

theorem lo_lt (r : ℝ) : lo r < 512 := by unfold lo; omega
theorem hi_lt (r : ℝ) : hi r < 512 := by unfold hi; omega

/-- The pixel at or below the coordinate, as a place of the axis. -/
def loF (r : ℝ) : Fin 512 := ⟨lo r, lo_lt r⟩
/-- The next pixel, as a place of the axis. -/
def hiF (r : ℝ) : Fin 512 := ⟨hi r, hi_lt r⟩

/-- A whole number below 512, converted to a 32-bit integer, is itself. -/
theorem fptosi_nat (n : ℤ) (h0 : 0 ≤ n) (h1 : n < 512) :
    FloatOps.fptosi (F := Ideal) (φ := .f32) 32 (((n : ℝ)) : EReal) = BitVec.ofNat 32 n.toNat := by
  obtain ⟨m, rfl⟩ := Int.eq_ofNat_of_zero_le h0
  have hm : m < 512 := by exact_mod_cast h1
  show BitVec.ofInt 32 (max _ (min _ (if (0 : ℝ) ≤ ((m : ℤ) : ℝ) then ⌊((m : ℤ) : ℝ)⌋ else ⌈((m : ℤ) : ℝ)⌉))) = _
  rw [if_pos (by positivity), Int.floor_intCast, min_eq_right (by norm_num; omega), max_eq_right (by norm_num)]
  simp

/-- A coordinate between 0 and 511 has its whole part between 0 and 511. -/
theorem floor_bounds {r : ℝ} (h0 : 0 ≤ r) (h1 : r ≤ 511) : 0 ≤ ⌊r⌋ ∧ ⌊r⌋ < 512 := by
  refine ⟨Int.floor_nonneg.2 h0, ?_⟩
  rw [Int.floor_lt]
  push_cast
  linarith

/-- The row of weights written out over the two neighbouring pixels. -/
theorem tap_eq {r : ℝ} (h0 : 0 ≤ r) (h1 : r ≤ 511) (k : Fin 512) :
    tap (r : EReal) k = (if k = loF r then ((1 - Int.fract r : ℝ) : EReal) else 0)
      + (if k = hiF r then ((Int.fract r : ℝ) : EReal) else 0) := by
  obtain ⟨f0, f1⟩ := floor_bounds h0 h1
  have hw : (r : EReal) - ((⌊r⌋ : ℝ) : EReal) = ((Int.fract r : ℝ) : EReal) := by
    rw [← EReal.coe_sub]; rfl
  have hk := k.isLt
  have hlo : (loF r : ℕ) = ⌊r⌋.toNat := by simp only [loF, lo]; omega
  have hhi : (hiF r : ℕ) = min (⌊r⌋.toNat + 1) 511 := rfl
  have hfl : Ideal.liftRound Int.floor (r : EReal) = ((⌊r⌋ : ℝ) : EReal) := rfl
  have hmin : IntOp.minsi (IntOp.addi (BitVec.ofNat 32 ⌊r⌋.toNat) 1#32) 511#32
      = BitVec.ofNat 32 (min (⌊r⌋.toNat + 1) 511) := by
    have all : ∀ n : Fin 512, IntOp.minsi (IntOp.addi (BitVec.ofNat 32 n.val) 1#32) 511#32
        = BitVec.ofNat 32 (min (n.val + 1) 511) := by decide +kernel
    exact all ⟨⌊r⌋.toNat, by omega⟩
  have heq : ∀ m : ℕ, m < 512 → (IntOp.cmpi CmpIPredicate.eq (BitVec.ofNat 32 k.val) (BitVec.ofNat 32 m)
      = BitVec.ofBool (decide (k.val = m))) := by
    intro m hm
    show BitVec.ofBool (BitVec.ofNat 32 k.val == BitVec.ofNat 32 m) = _
    congr 1
    rw [Bool.eq_iff_iff, beq_iff_eq, decide_eq_true_iff, ← BitVec.toNat_inj]
    simp only [BitVec.toNat_ofNat]
    omega
  unfold tap
  rw [hfl, fptosi_nat _ f0 f1, hmin, hw, heq _ (by omega), heq _ (by omega)]
  simp only [Fin.ext_iff, hlo, hhi]
  have hs : ∀ (p : Prop) [Decidable p] (a b : EReal), Scalar.select (BitVec.ofBool (decide p)) a b = if p then a else b := by
    intro p _ a b
    by_cases h : p <;> simp [Scalar.select, h]
  rw [hs, hs]
  rfl

/-- A weighted sum over the row is the two-point interpolation. -/
theorem sum_tap {r : ℝ} (h0 : 0 ≤ r) (h1 : r ≤ 511) (f : Fin 512 → EReal) :
    ∑ k, tap (r : EReal) k * f k
      = ((1 - Int.fract r : ℝ) : EReal) * f (loF r) + ((Int.fract r : ℝ) : EReal) * f (hiF r) := by
  have hp : 0 ≤ ((1 - Int.fract r : ℝ) : EReal) := by
    have := Int.fract_lt_one r
    exact_mod_cast (by linarith : (0:ℝ) ≤ 1 - Int.fract r)
  have hq : 0 ≤ ((Int.fract r : ℝ) : EReal) := by exact_mod_cast Int.fract_nonneg r
  have : ∀ k, tap (r : EReal) k * f k
      = (if k = loF r then ((1 - Int.fract r : ℝ) : EReal) * f k else 0)
        + (if k = hiF r then ((Int.fract r : ℝ) : EReal) * f k else 0) := by
    intro k
    rw [tap_eq h0 h1, EReal.right_distrib_of_nonneg (by split <;> first | exact hp | exact le_rfl)
      (by split <;> first | exact hq | exact le_rfl)]
    congr 1 <;> split <;> simp
  simp only [this, Finset.sum_add_distrib, Finset.sum_ite_eq', Finset.mem_univ, if_true]

end Cert.Gaze
-- ==== Proof.Block.lean ====
/-
  What one grid point of the kernel computes from its blocks: the sum, over the places of the crop, of the absolute
  values of the six interpolated differences.
-/
module

public import proofs.«01_k».proof.Proof.Gen.KernelIdeal.Frame
public import proofs.«01_k».proof.Proof.Taps

@[expose] public section

noncomputable section

namespace Cert.Gaze

open Idealize.ShloMosaic Cert.KernelIdeal Cert.KernelIdeal.Gen

/-- The difference image `d` interpolated at row coordinate `p` and column coordinate `q`, as two weighted sums. -/
def crop (p q : EReal) (d : Fin 512 → Fin 512 → EReal) : EReal :=
  ∑ w, (∑ h, tap p h * d h w) * tap q w

/-- The absolute value of the interpolated difference in channel `c`, for eye `e`, at place `(i, j)` of the crop. -/
def term (x0 x1 : Vec Ideal S1x3x512x512 .f32) (x2 : Vec Ideal S1x2x32 .f32) (x3 : Vec Ideal S1x32x2 .f32)
    (c : Fin 3) (e : Fin 2) (i j : Fin 32) : EReal :=
  eabs (crop (x3 (ix3 0 i e)) (x2 (ix3 0 e j)) fun h w => x0 (ix4 0 c h w) - x1 (ix4 0 c h w))

section Weights
variable (x0 x1 : Vec Ideal S1x3x512x512 .f32) (x2 : Vec Ideal S1x2x32 .f32) (x3 : Vec Ideal S1x32x2 .f32)

/-- The left eye's row weights. -/
theorem rowL (s : Fin 32) (h : Fin 512) : k0_pay23 x0 x1 x2 x3 (ix2 s h) = tap (x3 (ix3 0 s 0)) h := by
  pointwise [k0_pay23, k0_pay2]
  rfl

/-- The right eye's row weights. -/
theorem rowR (s : Fin 32) (h : Fin 512) : k0_pay25 x0 x1 x2 x3 (ix2 s h) = tap (x3 (ix3 0 s 1)) h := by
  pointwise [k0_pay25, k0_pay9, k0_pay8, k0_pay7, k0_pay6, k0_pay5, k0_pay4, k0_pay3]
  rfl

/-- The left eye's column weights. -/
theorem colL (s : Fin 32) (h : Fin 512) : k0_pay26 x0 x1 x2 x3 (ix2 h s) = tap (x2 (ix3 0 0 s)) h := by
  pointwise [k0_pay26, k0_pay10]
  rfl

/-- The right eye's column weights. -/
theorem colR (s : Fin 32) (h : Fin 512) :
    k0_pay18 (k0_pay27 x0 x1 x2 x3) (k0_pay28 x0 x1 x2 x3) (k0_pay24 x0 x1 x2 x3) (k0_pay29 x0 x1 x2 x3)
      (k0_pay30 x0 x1 x2 x3) (ix2 h s) = tap (x2 (ix3 0 1 s)) h := by
  pointwise [k0_pay18, k0_pay27, k0_pay28, k0_pay24, k0_pay29, k0_pay30, k0_pay17, k0_pay16, k0_pay15, k0_pay14,
    k0_pay13, k0_pay12, k0_pay11]
  rfl

end Weights

/-- The block's result is the sum of all the terms. -/
theorem out_eq (x0 x1 : Vec Ideal S1x3x512x512 .f32) (x2 : Vec Ideal S1x2x32 .f32) (x3 : Vec Ideal S1x32x2 .f32)
    (y : S1x1x1.Idx) :
    out0_4 x0 x1 x2 x3 y = ∑ i, ∑ j, ∑ c, ∑ e, term x0 x1 x2 x3 c e i j := by
  have hl := rowL x0 x1 x2 x3
  have hr := rowR x0 x1 x2 x3
  have hl' := colL x0 x1 x2 x3
  have hr' := colR x0 x1 x2 x3
  unfold out0_4
  rw [View.canon_unit_zero (by ext a; fin_cases a <;> rfl)]
  unfold k0_pay19
  generalize k0_pay18 (k0_pay27 x0 x1 x2 x3) (k0_pay28 x0 x1 x2 x3) (k0_pay24 x0 x1 x2 x3) (k0_pay29 x0 x1 x2 x3)
      (k0_pay30 x0 x1 x2 x3) = D at hr' ⊢
  generalize k0_pay23 x0 x1 x2 x3 = A at hl ⊢
  generalize k0_pay25 x0 x1 x2 x3 = B at hr ⊢
  generalize k0_pay26 x0 x1 x2 x3 = C at hl' ⊢
  pointwise [k0_pay1, k0_pay20, k0_pay21, k0_pay22]
  simp only [hl, hr, hl', hr', Fin.sum_univ_three, Fin.sum_univ_two]
  refine Finset.sum_congr rfl fun i _ => Finset.sum_congr rfl fun j _ => ?_
  simp only [term, crop, ← add_assoc]
  rfl

end Cert.Gaze
-- ==== Proof.KernelRun.lean ====
/-
  The kernel's result as a formula over the arrays its grid reads: the sum over the batch of the blocks' sums, divided
  by the constant.
-/
module

public import proofs.«01_k».proof.Proof.Block
public import Idealize.ShloMosaic.Lib.Pipeline.ValueKit
public import Idealize.ShloMosaic.Lib.StableHlo.ReadAt

@[expose] public section

set_option maxRecDepth 16384

noncomputable section

namespace Cert.Gaze

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Block `t` of every window lies at batch `t`. -/
theorem idx0 : ∀ t : Fin grid0.N, win0_0.index t = ![t.val, 0, 0, 0] ∧ win0_1.index t = ![t.val, 0, 0, 0]
    ∧ win0_2.index t = ![t.val, 0, 0] ∧ win0_3.index t = ![t.val, 0, 0] ∧ win0_4.index t = ![t.val, 0, 0] := by
  decide +kernel

/-- Batch `b`'s sum, from the images `P`, `T`, the column coordinates `X` and the row coordinates `Y`. -/
def batchSum (P T : Vec Ideal S64x3x512x512 .f32) (X : Vec Ideal S64x2x32 .f32) (Y : Vec Ideal S64x32x2 .f32)
    (b : Fin 64) : EReal :=
  ∑ i : Fin 32, ∑ j : Fin 32, ∑ ch : Fin 3, ∑ e : Fin 2,
    eabs (crop (Y (ix3 b i e)) (X (ix3 b e j)) fun h w => P (ix4 b ch h w) - T (ix4 b ch h w))

/-- A block's sum is the batch's when its blocks hold the batch's part of the arrays. -/
theorem blockSum_eq (P T : Vec Ideal S64x3x512x512 .f32) (X : Vec Ideal S64x2x32 .f32) (Y : Vec Ideal S64x32x2 .f32)
    (b : Fin 64) (x0 x1 : Vec Ideal S1x3x512x512 .f32) (x2 : Vec Ideal S1x2x32 .f32) (x3 : Vec Ideal S1x32x2 .f32)
    (h0 : ∀ ch h w, x0 (ix4 0 ch h w) = P (ix4 b ch h w)) (h1 : ∀ ch h w, x1 (ix4 0 ch h w) = T (ix4 b ch h w))
    (h2 : ∀ e j, x2 (ix3 0 e j) = X (ix3 b e j)) (h3 : ∀ i e, x3 (ix3 0 i e) = Y (ix3 b i e)) :
    ∑ i, ∑ j, ∑ c, ∑ e, term x0 x1 x2 x3 c e i j = batchSum P T X Y b := by
  simp only [batchSum, term, h0, h1, h2, h3]

/-- Block `t` of window 0 holds batch `t` of its array. -/
theorem read0 (t : Fin cfg0.N) (f : Vec Ideal S64x3x512x512 .f32) (ch : Fin 3) (h w : Fin 512) :
    (((cfg0.win 0).blk t).view.read (Elt Ideal) f) (ix4 0 ch h w) = f (ix4 ⟨t.val, t.isLt⟩ ch h w) := by
  have e := (idx0 t).1
  blk_ext [e]

/-- Block `t` of window 1 holds batch `t` of its array. -/
theorem read1 (t : Fin cfg0.N) (f : Vec Ideal S64x3x512x512 .f32) (ch : Fin 3) (h w : Fin 512) :
    (((cfg0.win 1).blk t).view.read (Elt Ideal) f) (ix4 0 ch h w) = f (ix4 ⟨t.val, t.isLt⟩ ch h w) := by
  have e := (idx0 t).2.1
  blk_ext [e]

/-- Block `t` of window 2 holds batch `t` of its array. -/
theorem read2 (t : Fin cfg0.N) (f : Vec Ideal S64x2x32 .f32) (e : Fin 2) (j : Fin 32) :
    (((cfg0.win 2).blk t).view.read (Elt Ideal) f) (ix3 0 e j) = f (ix3 ⟨t.val, t.isLt⟩ e j) := by
  have e := (idx0 t).2.2.1
  blk_ext [e]

/-- Block `t` of window 3 holds batch `t` of its array. -/
theorem read3 (t : Fin cfg0.N) (f : Vec Ideal S64x32x2 .f32) (i : Fin 32) (e : Fin 2) :
    (((cfg0.win 3).blk t).view.read (Elt Ideal) f) (ix3 0 i e) = f (ix3 ⟨t.val, t.isLt⟩ i e) := by
  have e := (idx0 t).2.2.2.1
  blk_ext [e]

/-- The output array after the grid holds the batch sums. -/
theorem out_array (c : Dev nD) :
    (dats m 0 c).arrAt 4 (cfgs 0).N
      = fun y : S64x1x1.Idx => batchSum (V m c main_arg0) (V m c main_arg1) (V m c main_v232) (V m c main_v235) (y 0) := by
  refine (dats m 0 c).arrAt_eq_of_covers 4 _ (by decide +kernel) fun t hf y => ?_
  blk_simp
  rw [after0_4, out_eq]
  have hb : (((cfg0.win 4).blk t).view.emb y 0 : Fin 64) = ⟨t.val, t.isLt⟩ := by
    have e4 := (idx0 t).2.2.2.2
    apply Fin.ext
    blk_simp [e4]
  refine (blockSum_eq _ _ _ _ ⟨t.val, t.isLt⟩ _ _ _ _ (read0 t _) (read1 t _) (read2 t _) (read3 t _)).trans ?_
  exact congrArg (batchSum _ _ _ _) hb.symm

/-- The kernel's result: the batch sums' sum divided by the constant. -/
def kernelResult (P T : Vec Ideal S64x3x512x512 .f32) (X : Vec Ideal S64x2x32 .f32) (Y : Vec Ideal S64x32x2 .f32) :
    EReal :=
  Idealize.ShloMosaic.Ideal.div (∑ b, batchSum P T X Y b) (Idealize.ShloMosaic.Ideal.ofBits .f32 0x48C00000#32)

/-- What the operations after the grid leave in the result buffer. -/
theorem tail_eq (c : Dev nD) (x : S_.Idx) :
    Pipeline.afterTail₀ cfgs (dats m) 0 (V0 m) [hostOps1] c main_v238 x
      = kernelResult (V m c main_arg0) (V m c main_arg1) (V m c main_v232) (V m c main_v235) := by
  have hinj : Function.Injective (Pipeline.arrRef (cfgs 0).spec) := by
    show Function.Injective (Pipeline.arrRef spec0)
    decide
  have hw : Pipeline.withArrays (cfgs 0).spec c (V0 m c) (fun w => (dats m 0 c).arrAt w (cfgs 0).N)
      (Proc.devRef .tc main_v236) = (dats m 0 c).arrAt 4 (cfgs 0).N :=
    Pipeline.withArrays_arr (cfgs 0).spec hinj c (V0 m c) (fun w => (dats m 0 c).arrAt w (cfgs 0).N) 4
  unfold Pipeline.afterTail₀
  generalize Pipeline.withArrays (cfgs 0).spec c (V0 m c) (fun w => (dats m 0 c).arrAt w (cfgs 0).N) = W at hw ⊢
  rw [out_array] at hw
  generalize V m c main_arg0 = P at hw ⊢
  generalize V m c main_arg1 = T at hw ⊢
  generalize V m c main_v232 = X at hw ⊢
  generalize V m c main_v235 = Y at hw ⊢
  simp only [List.flatten_cons, List.flatten_nil, List.append_nil]
  unfold hostOps1
  after_reads_simp
  rw [hw]
  pointwise [kernelResult]
  simp only [Finset.univ_unique, Finset.sum_singleton]

/-- The kernel runs to its result and leaves its arguments unchanged. -/
theorem kernel_run : θ_run defs (onTc (τ := τ) (main (F := Idealize.ShloMosaic.Ideal))) ⟨m, fun _ => 0, ρ⟩
    fun r => ∀ c : Dev nD,
      r.2.mem ((c.tc : Thread nD τ).loc main_v238)
        = (fun _ => kernelResult (V m c main_arg0) (V m c main_arg1) (V m c main_v232) (V m c main_v235))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, h.2 c⟩) (θ_run_and (run_main m ρ) (unchanged m ρ))
  refine ((h.1 c).2 main_v238 ?_).trans (funext fun x => tail_eq m c x)
  exact Pipeline.mem_restRefs_of main_v238 rfl (show ∀ w, (spec0 w).arr.view.ref ≠ main_v238 by decide)

end Cert.Gaze
-- ==== Proof.Coords.lean ====
/-
  The sampling coordinates of one eye as both programs compute them: the padded and clipped box round six landmarks, the
  32 evenly spaced places along it, and the pixel coordinates they stand for.  Whatever the landmarks are, a coordinate
  is a real number between 0 and 511.
-/
module

public import proofs.«01_k».proof.Proof.Taps

@[expose] public section

noncomputable section

namespace Cert.Gaze

open Idealize.ShloMosaic

/-- The least of six values. -/
def least (f : Fin 6 → EReal) : EReal := Finset.fold min (Ideal.ofBits .f32 0x7F800000#32) f Finset.univ

/-- The greatest of six values. -/
def greatest (f : Fin 6 → EReal) : EReal := Finset.fold max (Ideal.ofBits .f32 0xFF800000#32) f Finset.univ

/-- A value clipped to the pixel numbers. -/
def clip (v : EReal) : EReal := min (Ideal.ofBits .f32 0x43FF8000#32) (max 0 v)

/-- The box's lower edge. -/
def edgeLo (f : Fin 6 → EReal) : EReal :=
  clip (least f - (greatest f - least f) * Ideal.ofBits .f32 0x3E99999A#32)

/-- The box's upper edge. -/
def edgeHi (f : Fin 6 → EReal) : EReal :=
  clip (greatest f + (greatest f - least f) * Ideal.ofBits .f32 0x3E99999A#32)

/-- The bit that says that the box is less than a pixel wide or high. -/
def thin (fx fy : Fin 6 → EReal) : BitVec 1 :=
  IntOp.ori (BitVec.ofBool (decide (edgeHi fx - edgeLo fx < 1))) (BitVec.ofBool (decide (edgeHi fy - edgeLo fy < 1)))

/-- Width and height may be asked for in either order. -/
theorem thin_comm (fx fy : Fin 6 → EReal) : thin fx fy = thin fy fx := BitVec.or_comm _ _

/-- A pixel coordinate scaled to the interval from -1 to 1. -/
def scaled (v : EReal) : EReal :=
  Ideal.div v (Ideal.ofBits .f32 0x43FF8000#32) * Ideal.ofBits .f32 0x40000000#32 - 1

/-- Place `s` of the 32 evenly spaced places from 0 to 1. -/
def place (s : Fin 32) : EReal :=
  Ideal.div (FloatOps.sitofp (F := Ideal) FTy.f32 (BitVec.ofNat 32 s.val)) (Ideal.ofBits .f32 0x41F80000#32)

/-- The pixel coordinate of place `s` along the axis on which the landmarks lie at `f`. -/
def coord (d : BitVec 1) (f : Fin 6 → EReal) (s : Fin 32) : EReal :=
  clip ((Scalar.select d 0 (scaled (edgeLo f) + (scaled (edgeHi f) - scaled (edgeLo f)) * place s) + 1)
    * Ideal.ofBits .f32 0x3F000000#32 * Ideal.ofBits .f32 0x43FF8000#32)

/-- The greatest pixel number. -/
theorem lit511 : Ideal.ofBits .f32 0x43FF8000#32 = ((511 : ℝ) : EReal) := by
  simp [Ideal.ofBits, Ideal.ieee, -EReal.coe_mul]
  norm_num

/-- A clipped value is a real number between 0 and 511. -/
theorem clip_real (v : EReal) : ∃ r : ℝ, 0 ≤ r ∧ r ≤ 511 ∧ clip v = r := by
  have h0 : 0 ≤ clip v := by
    unfold clip
    rw [lit511]
    exact le_min (by exact_mod_cast (by norm_num : (0:ℝ) ≤ 511)) (le_max_left _ _)
  have h1 : clip v ≤ ((511 : ℝ) : EReal) := by
    unfold clip
    rw [lit511]
    exact min_le_left _ _
  have hi : ¬ Inf (clip v) := by
    rintro (h | h)
    · rw [h] at h1; exact absurd h1 (by simp)
    · rw [h] at h0; exact absurd h0 (by simp)
  obtain ⟨r, hr⟩ := exists_coe hi
  rw [hr] at h0 h1
  exact ⟨r, by exact_mod_cast h0, by exact_mod_cast h1, hr⟩

end Cert.Gaze
-- ==== Proof.KernelCoords.lean ====
/-
  The arrays of sampling coordinates that the operations before the grid leave for it.
-/
module

public import proofs.«01_k».proof.Proof.KernelRun
public import proofs.«01_k».proof.Proof.Coords

@[expose] public section

set_option maxRecDepth 16384

noncomputable section

namespace Cert.Gaze

open Idealize.ShloMosaic Idealize.ShloMosaic.TcCoe
open Cert.KernelIdeal Cert.KernelIdeal.Gen

variable (m : (ℓ : Loc nD τ sig) → Buf (Elt Idealize.ShloMosaic.Ideal) ℓ)

/-- The coordinates on axis `a` of the six landmarks of batch `b` from number `o` on. -/
def marks (L : Vec Idealize.ShloMosaic.Ideal S64x68x2 .f32) (o : ℕ) (ho : o + 6 ≤ 68) (b : Fin 64) (a : Fin 2)
    (k : Fin 6) : EReal :=
  L (ix3 b ⟨o + k.val, by omega⟩ a)

/-- A literal of the ideal floats, by its bits. -/
theorem ofBits_lit (w : BitVec 32) :
    FloatOps.ofBits (F := Idealize.ShloMosaic.Ideal) FTy.f32 w = Idealize.ShloMosaic.Ideal.ofBits .f32 w := rfl

/-- The pixel coordinates of one eye of batch `b` on axis `a`, the eye's landmarks being the six from number `o` on. -/
def pixel (L : Vec Idealize.ShloMosaic.Ideal S64x68x2 .f32) (o : ℕ) (ho : o + 6 ≤ 68) (b : Fin 64) (a : Fin 2)
    (s : Fin 32) : EReal :=
  coord (thin (marks L o ho b 0) (marks L o ho b 1)) (marks L o ho b a) s

set_option maxHeartbeats 400000 in
/-- The array of the column coordinates of the left eye. -/
theorem xLeft (c : Dev nD) (b : Fin 64) (s : Fin 32) :
    V m c main_v70 (ix2 b s) = pixel (m (c, Proc.tc.devRef main_arg2)) 36 (by omega) b 0 s := by
  unfold V V0
  after_reads_at
  simp only [id_eq, constant_apply, ofBits_lit, Idealize.ShloMosaic.Ideal.ofBits_zero_f32]
  rfl

set_option maxHeartbeats 400000 in
/-- The array of the row coordinates of the left eye. -/
theorem yLeft (c : Dev nD) (b : Fin 64) (s : Fin 32) :
    V m c main_v114 (ix2 b s) = pixel (m (c, Proc.tc.devRef main_arg2)) 36 (by omega) b 1 s := by
  unfold V V0
  after_reads_at
  simp only [id_eq, constant_apply, ofBits_lit, Idealize.ShloMosaic.Ideal.ofBits_zero_f32]
  rw [pixel, thin_comm]
  rfl

set_option maxHeartbeats 400000 in
/-- The array of the column coordinates of the right eye. -/
theorem xRight (c : Dev nD) (b : Fin 64) (s : Fin 32) :
    V m c main_v185 (ix2 b s) = pixel (m (c, Proc.tc.devRef main_arg2)) 42 (by omega) b 0 s := by
  unfold V V0
  after_reads_at
  simp only [id_eq, constant_apply, ofBits_lit, Idealize.ShloMosaic.Ideal.ofBits_zero_f32]
  rfl

set_option maxHeartbeats 400000 in
/-- The array of the row coordinates of the right eye. -/
theorem yRight (c : Dev nD) (b : Fin 64) (s : Fin 32) :
    V m c main_v229 (ix2 b s) = pixel (m (c, Proc.tc.devRef main_arg2)) 42 (by omega) b 1 s := by
  unfold V V0
  after_reads_at
  simp only [id_eq, constant_apply, ofBits_lit, Idealize.ShloMosaic.Ideal.ofBits_zero_f32]
  rw [pixel, thin_comm]
  rfl

/-- Running lists of operations one after the other ends with the last list. -/
theorem after_last (l : List (List (HloOp τ sig (Elt Idealize.ShloMosaic.Ideal)))) (h : l ≠ [])
    (W : Valuation τ sig (Elt Idealize.ShloMosaic.Ideal)) :
    StableHlo.after l.flatten W = StableHlo.after (l.getLast h) (StableHlo.after l.dropLast.flatten W) := by
  conv_lhs => rw [← List.dropLast_append_getLast h]
  rw [List.flatten_append, StableHlo.after_append, List.flatten_singleton]

/-- The last operations before the grid only put the eyes' coordinate arrays side by side. -/
theorem last_reads (W : Valuation τ sig (Elt Idealize.ShloMosaic.Ideal)) (b : Fin 64) (j : Fin 32) :
    (StableHlo.after hostOps0_48 W (Proc.tc.devRef main_v232) (ix3 b 0 j)
        = StableHlo.after hostOps0_48 W (Proc.tc.devRef main_v70) (ix2 b j)
      ∧ StableHlo.after hostOps0_48 W (Proc.tc.devRef main_v232) (ix3 b 1 j)
        = StableHlo.after hostOps0_48 W (Proc.tc.devRef main_v185) (ix2 b j))
    ∧ StableHlo.after hostOps0_48 W (Proc.tc.devRef main_v235) (ix3 b j 0)
        = StableHlo.after hostOps0_48 W (Proc.tc.devRef main_v114) (ix2 b j)
      ∧ StableHlo.after hostOps0_48 W (Proc.tc.devRef main_v235) (ix3 b j 1)
        = StableHlo.after hostOps0_48 W (Proc.tc.devRef main_v229) (ix2 b j) := by
  refine ⟨⟨?_, ?_⟩, ?_, ?_⟩ <;> after_reads_at

/-- The grid's coordinate arrays hold the left eye's coordinates and then the right eye's. -/
theorem side_by_side (c : Dev nD) (b : Fin 64) (j : Fin 32) :
    (V m c main_v232 (ix3 b 0 j) = V m c main_v70 (ix2 b j) ∧ V m c main_v232 (ix3 b 1 j) = V m c main_v185 (ix2 b j))
    ∧ V m c main_v235 (ix3 b j 0) = V m c main_v114 (ix2 b j)
      ∧ V m c main_v235 (ix3 b j 1) = V m c main_v229 (ix2 b j) := by
  unfold V V0
  rw [after_last _ (by simp)]
  exact last_reads _ b j

/-- The number of an eye's first landmark. -/
def first (e : Fin 2) : ℕ := if e = 0 then 36 else 42

/-- Each eye has six landmarks. -/
theorem first_le (e : Fin 2) : first e + 6 ≤ 68 := by
  unfold first
  split <;> omega

/-- The grid's column coordinates are those of the two eyes. -/
theorem columns (c : Dev nD) (b : Fin 64) (e : Fin 2) (j : Fin 32) :
    V m c main_v232 (ix3 b e j) = pixel (m (c, Proc.tc.devRef main_arg2)) (first e) (first_le e) b 0 j := by
  fin_cases e
  · exact (side_by_side m c b j).1.1.trans (xLeft m c b j)
  · exact (side_by_side m c b j).1.2.trans (xRight m c b j)

/-- The grid's row coordinates are those of the two eyes. -/
theorem rows (c : Dev nD) (b : Fin 64) (e : Fin 2) (i : Fin 32) :
    V m c main_v235 (ix3 b i e) = pixel (m (c, Proc.tc.devRef main_arg2)) (first e) (first_le e) b 1 i := by
  fin_cases e
  · exact (side_by_side m c b i).2.1.trans (yLeft m c b i)
  · exact (side_by_side m c b i).2.2.trans (yRight m c b i)

end Cert.Gaze
-- ==== Proof.RefCoords.lean ====
/-
  The reference's sampling coordinates: those of `Coords.lean` over the landmarks it looks up.
-/
module

public import proofs.«01_k».proof.Proof.Gen.ReferenceIdeal.Run
public import proofs.«01_k».proof.Proof.RefReads
public import proofs.«01_k».proof.Proof.KernelCoords
public import Idealize.ShloMosaic.Lib.Tactic.CleanTypes

@[expose] public section

set_option maxRecDepth 16384

noncomputable section

namespace Cert.Gaze

open Idealize.ShloMosaic Idealize.ShloMosaic.TcCoe
open Cert.ReferenceIdeal Cert.ReferenceIdeal.Gen Cert.ReferenceIdeal.Value

variable (W : Valuation τ sig (Elt Idealize.ShloMosaic.Ideal))

/-- The landmarks looked up for the left eye are those from number 36 on. -/
theorem left_marks (b : Fin 64) (k : Fin 6) (a : Fin 2) :
    res_main_v4 W (ix3 b k a) = marks (W (Proc.tc.devRef main_arg2)) 36 (by omega) b a k := by
  refine landmark_lookup _ _ b k a ⟨36 + k.val, by omega⟩ ?_
  fin_cases k <;> rfl

/-- The landmarks looked up for the right eye are those from number 42 on. -/
theorem right_marks (b : Fin 64) (k : Fin 6) (a : Fin 2) :
    res_main_v35 W (ix3 b k a) = marks (W (Proc.tc.devRef main_arg2)) 42 (by omega) b a k := by
  refine landmark_lookup _ _ b k a ⟨42 + k.val, by omega⟩ ?_
  fin_cases k <;> rfl

set_option maxHeartbeats 400000 in
/-- The column coordinates of the left eye. -/
theorem left_x (b : Fin 64) (i j : Fin 32) :
    res_main_v132 W (ix3 b i j) = pixel (W (Proc.tc.devRef main_arg2)) 36 (by omega) b 0 j := by
  unfold res_main_v132 res_main_v99 res_main_v78 res_main_v72 res_main_v63 res_main_v24 res_main_v65
    res_main_v30 res_main_v18 res_main_v13 res_main_v16 res_main_v62 res_main_v21 res_main_v64 res_main_v27
    res_main_v17 res_main_v7 res_main_v10
  clean_types
  pointwise []
  simp only [left_marks, id_eq, constant_apply, ofBits_lit, Idealize.ShloMosaic.Ideal.ofBits_zero_f32]
  rfl

set_option maxHeartbeats 400000 in
/-- The row coordinates of the left eye. -/
theorem left_y (b : Fin 64) (i j : Fin 32) :
    res_main_v139 W (ix3 b i j) = pixel (W (Proc.tc.devRef main_arg2)) 36 (by omega) b 1 i := by
  unfold res_main_v139 res_main_v99 res_main_v90 res_main_v72 res_main_v63 res_main_v24 res_main_v65
    res_main_v30 res_main_v18 res_main_v13 res_main_v16 res_main_v62 res_main_v21 res_main_v64 res_main_v27
    res_main_v17 res_main_v7 res_main_v10
  clean_types
  pointwise []
  simp only [left_marks, id_eq, constant_apply, ofBits_lit, Idealize.ShloMosaic.Ideal.ofBits_zero_f32]
  rfl

set_option maxHeartbeats 400000 in
/-- The column coordinates of the right eye. -/
theorem right_x (b : Fin 64) (i j : Fin 32) :
    res_main_v317 W (ix3 b i j) = pixel (W (Proc.tc.devRef main_arg2)) 42 (by omega) b 0 j := by
  unfold res_main_v317 res_main_v284 res_main_v263 res_main_v257 res_main_v248 res_main_v55 res_main_v250
    res_main_v61 res_main_v49 res_main_v44 res_main_v47 res_main_v247 res_main_v52 res_main_v249 res_main_v58
    res_main_v48 res_main_v38 res_main_v41
  clean_types
  pointwise []
  simp only [right_marks, id_eq, constant_apply, ofBits_lit, Idealize.ShloMosaic.Ideal.ofBits_zero_f32]
  rfl

set_option maxHeartbeats 400000 in
/-- The row coordinates of the right eye. -/
theorem right_y (b : Fin 64) (i j : Fin 32) :
    res_main_v324 W (ix3 b i j) = pixel (W (Proc.tc.devRef main_arg2)) 42 (by omega) b 1 i := by
  unfold res_main_v324 res_main_v284 res_main_v275 res_main_v257 res_main_v248 res_main_v55 res_main_v250
    res_main_v61 res_main_v49 res_main_v44 res_main_v47 res_main_v247 res_main_v52 res_main_v249 res_main_v58
    res_main_v48 res_main_v38 res_main_v41
  clean_types
  pointwise []
  simp only [right_marks, id_eq, constant_apply, ofBits_lit, Idealize.ShloMosaic.Ideal.ofBits_zero_f32]
  rfl

/-- The second image is sampled at the same coordinates: left columns. -/
theorem left_x_again : res_main_v502 W = res_main_v132 W := rfl

/-- The second image is sampled at the same coordinates: left rows. -/
theorem left_y_again : res_main_v509 W = res_main_v139 W := rfl

/-- The second image is sampled at the same coordinates: right columns. -/
theorem right_x_again : res_main_v687 W = res_main_v317 W := rfl

/-- The second image is sampled at the same coordinates: right rows. -/
theorem right_y_again : res_main_v694 W = res_main_v324 W := rfl

end Cert.Gaze
-- ==== Proof.RefPatch.lean ====
/-
  One patch of the reference: at every place the four pixels round the coordinate, weighted bilinearly.
-/
module

public import proofs.«01_k».proof.Proof.RefCoords

@[expose] public section

set_option maxRecDepth 16384

noncomputable section

namespace Cert.Gaze

open Idealize.ShloMosaic Idealize.ShloMosaic.TcCoe
open Cert.ReferenceIdeal Cert.ReferenceIdeal.Gen Cert.ReferenceIdeal.Value

/-- An array over the patch's places of each batch. -/
abbrev Places := FVec Idealize.ShloMosaic.Ideal S64x32x32 .f32

/-- Pixel numbers, read from floats clipped to the image. -/
def numbers (v : Places) : IVec S64x32x32 32 :=
  fptosi 32 (minimumf (broadcastInDim S64x32x32 ![] bcast_S_S64x32x32 (sitofp .f32 (constantI S_ 32 511#32)))
    (maximumf (broadcastInDim S64x32x32 ![] bcast_S_S64x32x32 (sitofp .f32 (constantI S_ 32 0#32))) v))

/-- The number one at every place. -/
def ones : Places := broadcastInDim S64x32x32 ![] bcast_S_S64x32x32 (constant S_ .f32 0x3F800000#32)

/-- Pixel numbers as a lookup takes them: a negative one counts from the end. -/
def entry (n : IVec S64x32x32 32) : IVec S64x32x32x1 32 :=
  broadcastInDim S64x32x32x1 ![0, 1, 2] bcast_S64x32x32_S64x32x32x1_0_1_2
    (select (cmpi .slt n (broadcastInDim S64x32x32 ![] bcast_S_S64x32x32 (constantI S_ 32 0#32)))
      (addi n (broadcastInDim S64x32x32 ![] bcast_S_S64x32x32 (constantI S_ 32 512#32))) n)

/-- The pixels in the rows `y` and columns `x`. -/
def pixels (A : FVec Idealize.ShloMosaic.Ideal S64x3x512x512 .f32) (y x : IVec S64x32x32 32) :
    FVec Idealize.ShloMosaic.Ideal S64x3x32x32 .f32 :=
  Host.gather gather_S64x3x512x512_S64x32x32x2_S64x3x32x32_1_23_0_0_23_3_1311 A
    (concatenate S64x32x32x2 3 [⟨S64x32x32x1, entry y⟩, ⟨S64x32x32x1, entry x⟩]
      concatenates_S64x32x32x1_S64x32x32x1_S64x32x32x2_d3)

/-- The same weight on every channel. -/
def spread (w : Places) : FVec Idealize.ShloMosaic.Ideal S64x3x32x32 .f32 :=
  broadcastInDim S64x3x32x32 ![0, 1, 2, 3] bcast_S64x1x32x32_S64x3x32x32_0_1_2_3
    (broadcastInDim S64x1x32x32 ![0, 2, 3] bcast_S64x32x32_S64x1x32x32_0_2_3 w)

/-- The patch of `A` at the columns `px` and rows `py`. -/
def patch (A : FVec Idealize.ShloMosaic.Ideal S64x3x512x512 .f32) (px py : Places) :
    FVec Idealize.ShloMosaic.Ideal S64x3x32x32 .f32 :=
  let x0 := numbers (Host.floor px)
  let x1 := numbers (addf (Host.floor px) ones)
  let y0 := numbers (Host.floor py)
  let y1 := numbers (addf (Host.floor py) ones)
  let u := subf px (Host.floor px)
  let v := subf py (Host.floor py)
  addf (addf (addf (mulf (mulf (pixels A y0 x0) (spread (subf ones u))) (spread (subf ones v)))
      (mulf (mulf (pixels A y0 x1) (spread u)) (spread (subf ones v))))
      (mulf (mulf (pixels A y1 x0) (spread (subf ones u))) (spread v)))
    (mulf (mulf (pixels A y1 x1) (spread u)) (spread v))

variable (W : Valuation τ sig (Elt Idealize.ShloMosaic.Ideal))

/-- The reference's four patches. -/
theorem patches :
    (res_main_v246 W = patch (W (Proc.tc.devRef main_arg0)) (res_main_v132 W) (res_main_v139 W)
      ∧ res_main_v431 W = patch (W (Proc.tc.devRef main_arg0)) (res_main_v317 W) (res_main_v324 W))
    ∧ res_main_v616 W = patch (W (Proc.tc.devRef main_arg1)) (res_main_v502 W) (res_main_v509 W)
      ∧ res_main_v801 W = patch (W (Proc.tc.devRef main_arg1)) (res_main_v687 W) (res_main_v694 W) :=
  ⟨⟨rfl, rfl⟩, rfl, rfl⟩

/-- A whole number clipped to the pixel numbers, as the 32-bit word it becomes. -/
theorem number_word (z : ℤ) (n : Fin 512) (h : min 511 (max 0 z) = (n.val : ℤ)) :
    FloatOps.fptosi (F := Idealize.ShloMosaic.Ideal) (φ := .f32) 32
        (min (FloatOps.sitofp (F := Idealize.ShloMosaic.Ideal) FTy.f32 511#32)
          (max (FloatOps.sitofp (F := Idealize.ShloMosaic.Ideal) FTy.f32 0#32) (((z : ℝ) : EReal))))
      = BitVec.ofNat 32 n.val := by
  have hn := n.isLt
  rw [← Int.toNat_natCast n.val, ← fptosi_nat n.val (by omega) (by omega), ← h]
  have h511 : FloatOps.sitofp (F := Idealize.ShloMosaic.Ideal) FTy.f32 511#32 = (((511 : ℤ) : ℝ) : EReal) := rfl
  have h0 : FloatOps.sitofp (F := Idealize.ShloMosaic.Ideal) FTy.f32 0#32 = (((0 : ℤ) : ℝ) : EReal) := rfl
  have mono : Monotone fun k : ℤ => ((k : ℝ) : EReal) := EReal.coe_strictMono.monotone.comp Int.cast_mono
  rw [h511, h0]
  exact congrArg _ ((congrArg _ (mono.map_max (a := 0) (b := z)).symm).trans (mono.map_min (a := 511)).symm)

/-- The row or column number at or below a coordinate. -/
theorem numbers_lo (v : Places) (b : Fin 64) (i j : Fin 32) (r : ℝ) (h0 : 0 ≤ r) (h1 : r ≤ 511)
    (h : v (ix3 b i j) = (r : EReal)) : numbers (Host.floor v) (ix3 b i j) = BitVec.ofNat 32 (loF r).val := by
  obtain ⟨f0, f1⟩ := floor_bounds h0 h1
  pointwise [numbers]
  rw [h]
  exact number_word ⌊r⌋ (loF r) (by simp only [loF, lo]; omega)

/-- The row or column number after a coordinate, the last one being its own neighbour. -/
theorem numbers_hi (v : Places) (b : Fin 64) (i j : Fin 32) (r : ℝ) (h0 : 0 ≤ r) (h1 : r ≤ 511)
    (h : v (ix3 b i j) = (r : EReal)) :
    numbers (addf (Host.floor v) ones) (ix3 b i j) = BitVec.ofNat 32 (hiF r).val := by
  obtain ⟨f0, f1⟩ := floor_bounds h0 h1
  pointwise [numbers, ones]
  rw [h]
  have e : Idealize.ShloMosaic.Ideal.liftRound Int.floor (r : EReal) + 1 = (((⌊r⌋ + 1 : ℤ) : ℝ) : EReal) := by
    push_cast
    rfl
  rw [e]
  exact number_word (⌊r⌋ + 1) (hiF r) (by simp only [hiF, hi]; omega)

/-- A row or column number is used as it is, since it is not negative. -/
theorem entry_at (n : IVec S64x32x32 32) (b : Fin 64) (i j : Fin 32) (k : Fin 512)
    (h : n (ix3 b i j) = BitVec.ofNat 32 k.val) : entry n (ix4 b i j 0) = BitVec.ofNat 32 k.val := by
  pointwise [entry]
  rw [h]
  have all : ∀ k : Fin 512, Scalar.select (IntOp.cmpi CmpIPredicate.slt (BitVec.ofNat 32 k.val) 0#32)
      (IntOp.addi (BitVec.ofNat 32 k.val) 512#32) (BitVec.ofNat 32 k.val) = BitVec.ofNat 32 k.val := by decide +kernel
  exact all k

/-- The pixel found at a place of the patch. -/
theorem pixels_at (A : FVec Idealize.ShloMosaic.Ideal S64x3x512x512 .f32) (y x : IVec S64x32x32 32) (b : Fin 64)
    (c : Fin 3) (i j : Fin 32) (k l : Fin 512) (hk : y (ix3 b i j) = BitVec.ofNat 32 k.val)
    (hl : x (ix3 b i j) = BitVec.ofNat 32 l.val) : pixels A y x (ix4 b c i j) = A (ix4 b c k l) := by
  refine pixel_lookup A _ b c i j k l ?_ ?_
  · refine Eq.trans ?_ (entry_at y b i j k hk)
    pointwise []
  · refine Eq.trans ?_ (entry_at x b i j l hl)
    pointwise []

/-- A place of the patch: the four pixels round its coordinate, weighted bilinearly. -/
theorem patch_at (A : FVec Idealize.ShloMosaic.Ideal S64x3x512x512 .f32) (px py : Places) (b : Fin 64) (c : Fin 3)
    (i j : Fin 32) (p q : ℝ) (hp0 : 0 ≤ p) (hp1 : p ≤ 511) (hq0 : 0 ≤ q) (hq1 : q ≤ 511)
    (hp : px (ix3 b i j) = (p : EReal)) (hq : py (ix3 b i j) = (q : EReal)) :
    patch A px py (ix4 b c i j) = bil (Int.fract p) (Int.fract q) (A (ix4 b c (loF q) (loF p)))
      (A (ix4 b c (loF q) (hiF p))) (A (ix4 b c (hiF q) (loF p))) (A (ix4 b c (hiF q) (hiF p))) := by
  have w : ∀ r : ℝ, (r : EReal) - Idealize.ShloMosaic.Ideal.liftRound Int.floor (r : EReal)
      = ((Int.fract r : ℝ) : EReal) := fun r => (EReal.coe_sub r ⌊r⌋).symm
  have w' : ∀ r : ℝ, 1 - ((Int.fract r : ℝ) : EReal) = ((1 - Int.fract r : ℝ) : EReal) := fun r => by
    push_cast
    rfl
  have x0 := numbers_lo px b i j p hp0 hp1 hp
  have x1 := numbers_hi px b i j p hp0 hp1 hp
  have y0 := numbers_lo py b i j q hq0 hq1 hq
  have y1 := numbers_hi py b i j q hq0 hq1 hq
  pointwise [patch, spread]
  rw [pixels_at A _ _ b c i j _ _ y0 x0, pixels_at A _ _ b c i j _ _ y0 x1, pixels_at A _ _ b c i j _ _ y1 x0,
    pixels_at A _ _ b c i j _ _ y1 x1, hp, hq, w, w]
  have o : ones (ix3 b i j) = 1 := by pointwise [ones]
  simp only [o, w', bil]

end Cert.Gaze
-- ==== Proof.Equation.lean ====
/-
  The equation: at every place the kernel's sampled difference and the difference of the reference's two patches have
  one absolute value, and the two ways of averaging agree.
-/
module

public import proofs.«01_k».proof.Proof.RefPatch

@[expose] public section

set_option maxRecDepth 16384

noncomputable section

namespace Cert.Gaze

open Idealize.ShloMosaic Idealize.ShloMosaic.TcCoe

/-- A crop with real coordinates weights the four pixels round them. -/
theorem crop_eq (r s : ℝ) (hr0 : 0 ≤ r) (hr1 : r ≤ 511) (hs0 : 0 ≤ s) (hs1 : s ≤ 511) (d : Fin 512 → Fin 512 → EReal) :
    crop (r : EReal) (s : EReal) d = mix (Int.fract s) (Int.fract r) (d (loF r) (loF s)) (d (loF r) (hiF s))
      (d (hiF r) (loF s)) (d (hiF r) (hiF s)) := by
  unfold crop
  simp only [sum_tap hr0 hr1 fun h => d h _, mul_comm _ (tap (s : EReal) _)]
  rw [sum_tap hs0 hs1 fun w => ((1 - Int.fract r : ℝ) : EReal) * d (loF r) w + ((Int.fract r : ℝ) : EReal) * d (hiF r) w]
  simp only [mix, mul_comm]

/-- Sampling the images' difference at a place, or taking the difference of their patches there. -/
theorem place_eq (P T : FVec Idealize.ShloMosaic.Ideal Cert.ReferenceIdeal.S64x3x512x512 .f32) (px py : Places) (b : Fin 64)
    (c : Fin 3) (i j : Fin 32) (p q : ℝ) (hp0 : 0 ≤ p) (hp1 : p ≤ 511) (hq0 : 0 ≤ q) (hq1 : q ≤ 511)
    (hp : px (ix3 b i j) = (p : EReal)) (hq : py (ix3 b i j) = (q : EReal)) :
    eabs (crop (q : EReal) (p : EReal) fun h w => P (ix4 b c h w) - T (ix4 b c h w))
      = eabs (patch P px py (ix4 b c i j) - patch T px py (ix4 b c i j)) := by
  rw [patch_at P px py b c i j p q hp0 hp1 hq0 hq1 hp hq, patch_at T px py b c i j p q hp0 hp1 hq0 hq1 hp hq,
    crop_eq q p hq0 hq1 hp0 hp1]
  exact abs_mix_eq _ _ (Int.fract_lt_one p) (Int.fract_lt_one q) _ _ _ _ _ _ _ _

/-- An absolute value is not negative. -/
theorem eabs_nonneg (x : EReal) : 0 ≤ eabs x := by
  unfold eabs
  rcases le_total 0 x with h | h
  · exact h.trans (le_max_left _ _)
  · exact (EReal.neg_nonneg.2 h).trans (le_max_right _ _)

/-- The three divisors. -/
theorem divisors : Idealize.ShloMosaic.Ideal.ofBits .f32 0x48C00000#32 = ((393216 : ℝ) : EReal)
    ∧ Idealize.ShloMosaic.Ideal.ofBits .f32 0x48400000#32 = ((196608 : ℝ) : EReal)
    ∧ Idealize.ShloMosaic.Ideal.ofBits .f32 0x40000000#32 = ((2 : ℝ) : EReal) := by
  refine ⟨?_, ?_, ?_⟩ <;> simp [Idealize.ShloMosaic.Ideal.ofBits, Idealize.ShloMosaic.Ideal.ieee, -EReal.coe_mul] <;>
    norm_num

/-- The mean over both eyes at once is the mean of the two eyes' means. -/
theorem means (A B : EReal) (hA : 0 ≤ A) (hB : 0 ≤ B) :
    Idealize.ShloMosaic.Ideal.div (A + B) (Idealize.ShloMosaic.Ideal.ofBits .f32 0x48C00000#32)
      = Idealize.ShloMosaic.Ideal.div
          (Idealize.ShloMosaic.Ideal.div A (Idealize.ShloMosaic.Ideal.ofBits .f32 0x48400000#32)
            + Idealize.ShloMosaic.Ideal.div B (Idealize.ShloMosaic.Ideal.ofBits .f32 0x48400000#32))
          (Idealize.ShloMosaic.Ideal.ofBits .f32 0x40000000#32) := by
  obtain ⟨h1, h2, h3⟩ := divisors
  rw [h1, h2, h3, Idealize.ShloMosaic.Ideal.div_coe (by norm_num), Idealize.ShloMosaic.Ideal.div_coe (by norm_num),
    Idealize.ShloMosaic.Ideal.div_coe (by norm_num), Idealize.ShloMosaic.Ideal.div_coe (by norm_num),
    ← EReal.right_distrib_of_nonneg hA hB, mul_assoc, ← EReal.coe_mul]
  norm_num

open Cert.ReferenceIdeal Cert.ReferenceIdeal.Gen Cert.ReferenceIdeal.Value

/-- The sum of the absolute differences of two patches. -/
def apart (x y : FVec Idealize.ShloMosaic.Ideal S64x3x32x32 .f32) : EReal :=
  ∑ b : Fin 64, ∑ c : Fin 3, ∑ i : Fin 32, ∑ j : Fin 32, eabs (x (ix4 b c i j) - y (ix4 b c i j))

/-- The reference's sum over a patch. -/
theorem sum_read (x y : FVec Idealize.ShloMosaic.Ideal S64x3x32x32 .f32) (z : S_.Idx) :
    Host.reduceAdd (Host.absf (subf x y)) (constant S_ .f32 0x00000000#32) reducesTo_S64x3x32x32_S_d0_1_2_3 h_S_ z
      = apart x y := by
  pointwise []
  rw [Idealize.ShloMosaic.Ideal.hostReduceAdd_total _ (fun d => d.elim0), zero_add, sum_idx4]
  rfl

/-- The sum over a patch is not negative. -/
theorem apart_nonneg (x y : FVec Idealize.ShloMosaic.Ideal S64x3x32x32 .f32) : 0 ≤ apart x y :=
  Finset.sum_nonneg fun _ _ => Finset.sum_nonneg fun _ _ => Finset.sum_nonneg fun _ _ => Finset.sum_nonneg fun _ _ =>
    eabs_nonneg _

/-- The reference's patch coordinates are those of the eye's landmarks. -/
def Sampled (L : FVec Idealize.ShloMosaic.Ideal S64x68x2 .f32) (e : Fin 2) (px py : Places) : Prop :=
  ∀ b i j, px (ix3 b i j) = pixel L (first e) (first_le e) b 0 j ∧ py (ix3 b i j) = pixel L (first e) (first_le e) b 1 i

/-- One place of one eye, in the kernel and in the reference. -/
theorem eye_eq (P T : FVec Idealize.ShloMosaic.Ideal S64x3x512x512 .f32) (L : FVec Idealize.ShloMosaic.Ideal S64x68x2 .f32)
    (e : Fin 2) (px py : Places) (h : Sampled L e px py) (b : Fin 64) (c : Fin 3) (i j : Fin 32) :
    eabs (crop (pixel L (first e) (first_le e) b 1 i) (pixel L (first e) (first_le e) b 0 j)
        fun h w => P (ix4 b c h w) - T (ix4 b c h w))
      = eabs (patch P px py (ix4 b c i j) - patch T px py (ix4 b c i j)) := by
  obtain ⟨hx, hy⟩ := h b i j
  obtain ⟨p, hp0, hp1, hp⟩ : ∃ r : ℝ, 0 ≤ r ∧ r ≤ 511 ∧ pixel L (first e) (first_le e) b 0 j = r := clip_real _
  obtain ⟨q, hq0, hq1, hq⟩ : ∃ r : ℝ, 0 ≤ r ∧ r ≤ 511 ∧ pixel L (first e) (first_le e) b 1 i = r := clip_real _
  rw [hp, hq]
  exact place_eq P T px py b c i j p q hp0 hp1 hq0 hq1 (hx.trans hp) (hy.trans hq)

/-- The channels may be summed first or last. -/
theorem channels_first (f : Fin 3 → Fin 32 → Fin 32 → EReal) :
    ∑ i, ∑ j, ∑ c, f c i j = ∑ c, ∑ i, ∑ j, f c i j :=
  (Finset.sum_congr rfl fun _ _ => Finset.sum_comm).trans Finset.sum_comm

/-- The kernel's sum is the sum of the reference's two. -/
theorem sums_eq (P T : FVec Idealize.ShloMosaic.Ideal S64x3x512x512 .f32) (L : FVec Idealize.ShloMosaic.Ideal S64x68x2 .f32)
    (X : FVec Idealize.ShloMosaic.Ideal Cert.KernelIdeal.S64x2x32 .f32)
    (Y : FVec Idealize.ShloMosaic.Ideal Cert.KernelIdeal.S64x32x2 .f32)
    (hX : ∀ b e j, X (ix3 b e j) = pixel L (first e) (first_le e) b 0 j)
    (hY : ∀ b e i, Y (ix3 b i e) = pixel L (first e) (first_le e) b 1 i)
    (lx ly rx ry : Places) (hl : Sampled L 0 lx ly) (hr : Sampled L 1 rx ry) :
    ∑ b, batchSum P T X Y b = apart (patch P lx ly) (patch T lx ly) + apart (patch P rx ry) (patch T rx ry) := by
  unfold apart
  rw [← Finset.sum_add_distrib]
  refine Finset.sum_congr rfl fun b _ => ?_
  rw [← channels_first, ← channels_first, ← Finset.sum_add_distrib]
  refine Finset.sum_congr rfl fun i _ => ?_
  rw [← Finset.sum_add_distrib]
  refine Finset.sum_congr rfl fun j _ => ?_
  rw [← Finset.sum_add_distrib]
  refine Finset.sum_congr rfl fun c _ => ?_
  rw [Fin.sum_univ_two, hX, hX, hY, hY, eye_eq P T L 0 lx ly hl, eye_eq P T L 1 rx ry hr]

/-- The reference's result, read from its patches. -/
theorem reference_eq (W : Valuation τ sig (Elt Idealize.ShloMosaic.Ideal)) (z : S_.Idx) :
    Host.divf (addf
        (Host.divf (Host.reduceAdd (Host.absf (subf (res_main_v246 W) (res_main_v616 W))) (constant S_ .f32 0x00000000#32)
          reducesTo_S64x3x32x32_S_d0_1_2_3 h_S_) (constant S_ .f32 0x48400000#32))
        (Host.divf (Host.reduceAdd (Host.absf (subf (res_main_v431 W) (res_main_v801 W))) (constant S_ .f32 0x00000000#32)
          reducesTo_S64x3x32x32_S_d0_1_2_3 h_S_) (constant S_ .f32 0x48400000#32))) (constant S_ .f32 0x40000000#32) z
      = Idealize.ShloMosaic.Ideal.div
          (Idealize.ShloMosaic.Ideal.div (apart (res_main_v246 W) (res_main_v616 W)) (Idealize.ShloMosaic.Ideal.ofBits .f32 0x48400000#32)
            + Idealize.ShloMosaic.Ideal.div (apart (res_main_v431 W) (res_main_v801 W)) (Idealize.ShloMosaic.Ideal.ofBits .f32 0x48400000#32))
          (Idealize.ShloMosaic.Ideal.ofBits .f32 0x40000000#32) := by
  rw [← sum_read _ _ z, ← sum_read _ _ z]
  rfl

/-- The kernel's result is the reference's. -/
theorem results_eq (W : Valuation τ sig (Elt Idealize.ShloMosaic.Ideal)) (P T : FVec Idealize.ShloMosaic.Ideal S64x3x512x512 .f32)
    (L : FVec Idealize.ShloMosaic.Ideal S64x68x2 .f32) (X : FVec Idealize.ShloMosaic.Ideal Cert.KernelIdeal.S64x2x32 .f32)
    (Y : FVec Idealize.ShloMosaic.Ideal Cert.KernelIdeal.S64x32x2 .f32)
    (hX : ∀ b e j, X (ix3 b e j) = pixel L (first e) (first_le e) b 0 j)
    (hY : ∀ b e i, Y (ix3 b i e) = pixel L (first e) (first_le e) b 1 i)
    (hP : W (Proc.tc.devRef main_arg0) = P) (hT : W (Proc.tc.devRef main_arg1) = T)
    (hL : W (Proc.tc.devRef main_arg2) = L) :
    kernelResult P T X Y = Idealize.ShloMosaic.Ideal.div
      (Idealize.ShloMosaic.Ideal.div (apart (res_main_v246 W) (res_main_v616 W)) (Idealize.ShloMosaic.Ideal.ofBits .f32 0x48400000#32)
        + Idealize.ShloMosaic.Ideal.div (apart (res_main_v431 W) (res_main_v801 W)) (Idealize.ShloMosaic.Ideal.ofBits .f32 0x48400000#32))
      (Idealize.ShloMosaic.Ideal.ofBits .f32 0x40000000#32) := by
  obtain ⟨⟨e0, e1⟩, e2, e3⟩ := patches W
  rw [left_x_again, left_y_again] at e2
  rw [right_x_again, right_y_again] at e3
  rw [e0, e1, e2, e3, hP, hT, ← means _ _ (apart_nonneg _ _) (apart_nonneg _ _), kernelResult]
  refine congrArg (Idealize.ShloMosaic.Ideal.div · _) (sums_eq P T L X Y hX hY _ _ _ _ ?_ ?_)
  · intro b i j
    rw [← hL]
    exact ⟨left_x W b i j, left_y W b i j⟩
  · intro b i j
    rw [← hL]
    exact ⟨right_x W b i j, right_y W b i j⟩

end Cert.Gaze
-- ==== Proof.lean ====
module

public import proofs.«01_k».proof.Proof.Gen.ReferenceIdeal.Run
public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs, leaves its arguments unchanged and, having no semaphore, ends with every counter at zero. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The kernel's mean and the reference's mean of the two eyes' means are the same extended real. -/
theorem algebraic : Cert.algebraic_KernelIdeal_ReferenceIdeal := by
  intro m ρ m' ρ' _ agree
  refine ⟨_, Cert.Gaze.kernel_run m ρ, ?_⟩
  refine (θ_run Cert.ReferenceIdeal.defs _ _).mono (fun r h c => ⟨(h c).1.trans (funext fun z => ?_), (h c).2⟩)
    (Cert.ReferenceIdeal.Value.run m' ρ')
  obtain ⟨a0, a1, a2⟩ := agree c
  refine (Cert.Gaze.reference_eq _ z).trans (Eq.symm ?_)
  refine Cert.Gaze.results_eq (StableHlo.launchContents m' c) _ _ (m ((c.tc : Thread _ _).loc Cert.KernelIdeal.main_arg2)) _ _
    (Cert.Gaze.columns m c) (fun b e i => Cert.Gaze.rows m c b e i) ?_ ?_ a2
  · exact a0.trans (Cert.KernelIdeal.Gen.V_main_arg0 m c).symm
  · exact a1.trans (Cert.KernelIdeal.Gen.V_main_arg1 m c).symm

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
